-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2x1024 : Shape := ⟨2, ![2, 1024]⟩
abbrev S512x1024 : Shape := ⟨2, ![512, 1024]⟩
abbrev S8x1024 : Shape := ⟨2, ![8, 1024]⟩
abbrev S8x2x1024 : Shape := ⟨3, ![8, 2, 1024]⟩
abbrev S7 : Shape := ⟨1, ![7]⟩
abbrev S8 : Shape := ⟨1, ![8]⟩
abbrev S_ : Shape := ⟨0, ![]⟩
abbrev S1024 : Shape := ⟨1, ![1024]⟩
abbrev S1x1024 : Shape := ⟨2, ![1, 1024]⟩
abbrev S1x2x1024 : Shape := ⟨3, ![1, 2, 1024]⟩
abbrev S1 : Shape := ⟨1, ![1]⟩
abbrev S8x1x1024 : Shape := ⟨3, ![8, 1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x1024, .f32⟩
  | .local _ .vmem, ⟨0, _⟩ => ⟨S512x1024, .bf16⟩
  | .local _ .vmem, ⟨1, _⟩ => ⟨S512x1024, .bf16⟩
  | .local _ .vmem, ⟨2, _⟩ => ⟨S2x1024, .f32⟩
  | .local _ .vmem, ⟨3, _⟩ => ⟨S8x1024, .f32⟩
  | .local _ .vmem, ⟨4, _⟩ => ⟨S8x1024, .i32⟩
  | .local _ .vmem, ⟨5, _⟩ => ⟨S8x2x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_141 : BitVec 32 := 1#32
  let v658 : BitVec 32 := Scalar.addi v2 c1_i32_141
  let c8_i32_142 : BitVec 32 := 8#32
  let v659 : BitVec 32 := Scalar.remsi v658 c8_i32_142
  let c1_i32_144 : BitVec 32 := 1#32
  let v660 : BitVec 32 := Scalar.muli v659 c1_i32_144
  let v661 : BitVec 32 := Scalar.addi c0_i32_145 v660
  v661.toNat
def k0_dev2 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_146 : BitVec 32 := 2#32
  let v662 : BitVec 32 := Scalar.addi v2 c2_i32_146
  let c8_i32_147 : BitVec 32 := 8#32
  let v663 : BitVec 32 := Scalar.remsi v662 c8_i32_147
  let c1_i32_149 : BitVec 32 := 1#32
  let v664 : BitVec 32 := Scalar.muli v663 c1_i32_149
  let v665 : BitVec 32 := Scalar.addi c0_i32_150 v664
  v665.toNat
def k0_dev3 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_151 : BitVec 32 := 3#32
  let v666 : BitVec 32 := Scalar.addi v2 c3_i32_151
  let c8_i32_152 : BitVec 32 := 8#32
  let v667 : BitVec 32 := Scalar.remsi v666 c8_i32_152
  let c1_i32_154 : BitVec 32 := 1#32
  let v668 : BitVec 32 := Scalar.muli v667 c1_i32_154
  let v669 : BitVec 32 := Scalar.addi c0_i32_155 v668
  v669.toNat
def k0_dev4 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_156 : BitVec 32 := 4#32
  let v670 : BitVec 32 := Scalar.addi v2 c4_i32_156
  let c8_i32_157 : BitVec 32 := 8#32
  let v671 : BitVec 32 := Scalar.remsi v670 c8_i32_157
  let c1_i32_159 : BitVec 32 := 1#32
  let v672 : BitVec 32 := Scalar.muli v671 c1_i32_159
  let v673 : BitVec 32 := Scalar.addi c0_i32_160 v672
  v673.toNat
def k0_dev5 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_161 : BitVec 32 := 5#32
  let v674 : BitVec 32 := Scalar.addi v2 c5_i32_161
  let c8_i32_162 : BitVec 32 := 8#32
  let v675 : BitVec 32 := Scalar.remsi v674 c8_i32_162
  let c1_i32_164 : BitVec 32 := 1#32
  let v676 : BitVec 32 := Scalar.muli v675 c1_i32_164
  let v677 : BitVec 32 := Scalar.addi c0_i32_165 v676
  v677.toNat
def k0_dev6 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_166 : BitVec 32 := 6#32
  let v678 : BitVec 32 := Scalar.addi v2 c6_i32_166
  let c8_i32_167 : BitVec 32 := 8#32
  let v679 : BitVec 32 := Scalar.remsi v678 c8_i32_167
  let c1_i32_169 : BitVec 32 := 1#32
  let v680 : BitVec 32 := Scalar.muli v679 c1_i32_169
  let v681 : BitVec 32 := Scalar.addi c0_i32_170 v680
  v681.toNat
def k0_dev7 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_171 : BitVec 32 := 7#32
  let v682 : BitVec 32 := Scalar.addi v2 c7_i32_171
  let c8_i32_172 : BitVec 32 := 8#32
  let v683 : BitVec 32 := Scalar.remsi v682 c8_i32_172
  let c1_i32_174 : BitVec 32 := 1#32
  let v684 : BitVec 32 := Scalar.muli v683 c1_i32_174
  let v685 : BitVec 32 := Scalar.addi c0_i32_175 v684
  v685.toNat
def k0_cond2 (i : grid0.Coords) : BitVec 1 :=
  let arg0 : BitVec 32 := BitVec.ofNat 32 (i 0).val
  let c7_i32_139 : BitVec 32 := 7#32
  let v654 : BitVec 1 := Scalar.cmpi .eq arg0 c7_i32_139
  let v655 : BitVec 32 := Scalar.extui v654
  let c0_i32_140 : BitVec 32 := 0#32
  let v656 : BitVec 1 := Scalar.cmpi .ne v655 c0_i32_140
  v656

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v676 : Index := Scalar.indexCast v2
  let c0_144 : Index := 0#32
  let c0_145 : Index := 0#32
  ![v676.toNat, 0, 0]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_152 : BitVec 32 := 0#32
  let c0_i32_153 : BitVec 32 := 0#32
  ![v2.toNat, 0, 0]
def k0_dev8 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_147 : BitVec 32 := 1#32
  let v681 : BitVec 32 := Scalar.addi v2 c1_i32_147
  let c8_i32_148 : BitVec 32 := 8#32
  let v682 : BitVec 32 := Scalar.remsi v681 c8_i32_148
  let c1_i32_150 : BitVec 32 := 1#32
  let v683 : BitVec 32 := Scalar.muli v682 c1_i32_150
  let v684 : BitVec 32 := Scalar.addi c0_i32_151 v683
  v684.toNat
def k0_dev9 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_156 : BitVec 32 := 2#32
  let v693 : BitVec 32 := Scalar.addi v2 c2_i32_156
  let c8_i32_157 : BitVec 32 := 8#32
  let v694 : BitVec 32 := Scalar.remsi v693 c8_i32_157
  let c1_i32_159 : BitVec 32 := 1#32
  let v695 : BitVec 32 := Scalar.muli v694 c1_i32_159
  let v696 : BitVec 32 := Scalar.addi c0_i32_160 v695
  v696.toNat
def k0_dev10 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_165 : BitVec 32 := 3#32
  let v705 : BitVec 32 := Scalar.addi v2 c3_i32_165
  let c8_i32_166 : BitVec 32 := 8#32
  let v706 : BitVec 32 := Scalar.remsi v705 c8_i32_166
  let c1_i32_168 : BitVec 32 := 1#32
  let v707 : BitVec 32 := Scalar.muli v706 c1_i32_168
  let v708 : BitVec 32 := Scalar.addi c0_i32_169 v707
  v708.toNat
def k0_dev11 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_174 : BitVec 32 := 4#32
  let v717 : BitVec 32 := Scalar.addi v2 c4_i32_174
  let c8_i32_175 : BitVec 32 := 8#32
  let v718 : BitVec 32 := Scalar.remsi v717 c8_i32_175
  let c1_i32_177 : BitVec 32 := 1#32
  let v719 : BitVec 32 := Scalar.muli v718 c1_i32_177
  let v720 : BitVec 32 := Scalar.addi c0_i32_178 v719
  v720.toNat
def k0_dev12 (d0 : Dev nD) : Nat :=
  let c0_i32_187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_183 : BitVec 32 := 5#32
  let v729 : BitVec 32 := Scalar.addi v2 c5_i32_183
  let c8_i32_184 : BitVec 32 := 8#32
  let v730 : BitVec 32 := Scalar.remsi v729 c8_i32_184
  let c1_i32_186 : BitVec 32 := 1#32
  let v731 : BitVec 32 := Scalar.muli v730 c1_i32_186
  let v732 : BitVec 32 := Scalar.addi c0_i32_187 v731
  v732.toNat
def k0_dev13 (d0 : Dev nD) : Nat :=
  let c0_i32_196 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_192 : BitVec 32 := 6#32
  let v741 : BitVec 32 := Scalar.addi v2 c6_i32_192
  let c8_i32_193 : BitVec 32 := 8#32
  let v742 : BitVec 32 := Scalar.remsi v741 c8_i32_193
  let c1_i32_195 : BitVec 32 := 1#32
  let v743 : BitVec 32 := Scalar.muli v742 c1_i32_195
  let v744 : BitVec 32 := Scalar.addi c0_i32_196 v743
  v744.toNat
def k0_dev14 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_201 : BitVec 32 := 7#32
  let v753 : BitVec 32 := Scalar.addi v2 c7_i32_201
  let c8_i32_202 : BitVec 32 := 8#32
  let v754 : BitVec 32 := Scalar.remsi v753 c8_i32_202
  let c1_i32_204 : BitVec 32 := 1#32
  let v755 : BitVec 32 := Scalar.muli v754 c1_i32_204
  let v756 : BitVec 32 := Scalar.addi c0_i32_205 v755
  v756.toNat
def k0_off4 (d0 : Dev nD) (c1_i32_210 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v765 : BitVec 32 := Scalar.subi v2 c1_i32_210
  let c8_i32_211 : BitVec 32 := 8#32
  let v766 : BitVec 32 := Scalar.addi v765 c8_i32_211
  let c8_i32_212 : BitVec 32 := 8#32
  let v767 : BitVec 32 := Scalar.remsi v766 c8_i32_212
  ![v767.toNat]
def k0_off5 (d0 : Dev nD) (c1_i32_210 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v765 : BitVec 32 := Scalar.subi v2 c1_i32_210
  let c8_i32_211 : BitVec 32 := 8#32
  let v766 : BitVec 32 := Scalar.addi v765 c8_i32_211
  let c8_i32_212 : BitVec 32 := 8#32
  let v767 : BitVec 32 := Scalar.remsi v766 c8_i32_212
  let c0_i32_216 : BitVec 32 := 0#32
  let c0_i32_217 : BitVec 32 := 0#32
  ![v767.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩
abbrev S2x1024 : Shape := ⟨2, ![2, 1024]⟩

abbrev nBuf : Space → Nat
  | .hbm => 13
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .i32⟩
  | .hbm, ⟨2, _⟩ => ⟨S_, .bf16⟩
  | .hbm, ⟨3, _⟩ => ⟨S_, .i32⟩
  | .hbm, ⟨4, _⟩ => ⟨S1024, .bf16⟩
  | .hbm, ⟨5, _⟩ => ⟨S1024, .i32⟩
  | .hbm, ⟨6, _⟩ => ⟨S1024, .f32⟩
  | .hbm, ⟨7, _⟩ => ⟨S_, .bf16⟩
  | .hbm, ⟨8, _⟩ => ⟨S1024, .bf16⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S2x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Proof.Base.lean ====
/- What every module about the kernel's run shares: the resource algebra (the pipeline's own rounds beside those
   of the exchange, whose duties are named by `Fin 7`), and the order the eight devices stand in. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.FrameBody
public import Idealize.ShloMosaic.Lib.Tactic

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The exchange's rounds: a duty is one of the seven other devices, by its distance. -/
abbrev UB : Type := URounds (GSem nD τ sig) (Fin 7)
/-- The pipeline's rounds and the exchange's, side by side. -/
abbrev UU : Type := UR sig nD τ × UB

/-- No call of the kernel is bounded. -/
abbrev 𝒱₀ : Variants := Variants.none

/-- The device `k + 1` places after `c`. -/
def tgt (c : Dev nD) (k : Fin 7) : Dev nD := ⟨(c.val + k.val + 1) % 8, Nat.mod_lt _ (by decide)⟩
/-- The device `k + 1` places before `c`. -/
def src (c : Dev nD) (k : Fin 7) : Dev nD := ⟨(c.val + 7 - k.val) % 8, Nat.mod_lt _ (by decide)⟩

theorem tgt_val (c : Dev nD) (k : Fin 7) : (tgt c k).val = (c.val + k.val + 1) % 8 := rfl
theorem src_val (c : Dev nD) (k : Fin 7) : (src c k).val = (c.val + 7 - k.val) % 8 := rfl

theorem src_tgt (c : Dev nD) (k : Fin 7) : src (tgt c k) k = c := by
  have hc : c.val < 8 := c.isLt
  apply Fin.ext; rw [src_val, tgt_val]; omega
theorem tgt_src (c : Dev nD) (k : Fin 7) : tgt (src c k) k = c := by
  have hc : c.val < 8 := c.isLt
  apply Fin.ext; rw [tgt_val, src_val]; omega
theorem src_ne (c : Dev nD) (k : Fin 7) : src c k ≠ c := by
  have hc : c.val < 8 := c.isLt
  intro h; have := congrArg Fin.val h; rw [src_val] at this; omega
theorem tgt_ne (c : Dev nD) (k : Fin 7) : tgt c k ≠ c := by
  have hc : c.val < 8 := c.isLt
  intro h; have := congrArg Fin.val h; rw [tgt_val] at this; omega
theorem src_inj (c : Dev nD) : Function.Injective (src c) := fun k l h => by
  have hc : c.val < 8 := c.isLt
  have := congrArg Fin.val h; rw [src_val, src_val] at this; apply Fin.ext; omega
theorem tgt_inj (c : Dev nD) : Function.Injective (tgt c) := fun k l h => by
  have hc : c.val < 8 := c.isLt
  have := congrArg Fin.val h; rw [tgt_val, tgt_val] at this; apply Fin.ext; omega
/-- Every device is `c` or one of the seven before it. -/
theorem eq_or_src (c s : Dev nD) : s = c ∨ ∃ k, s = src c k := by
  have hc : c.val < 8 := c.isLt
  have hs : s.val < 8 := s.isLt
  by_cases h : s = c
  · exact .inl h
  · have h' : s.val ≠ c.val := fun e => h (Fin.ext e)
    exact .inr ⟨⟨(c.val + 7 - s.val) % 8, by omega⟩, Fin.ext (by rw [src_val]; simp only; omega)⟩

/-- The devices, each moved `k + 1` places on. -/
def shift (k : Fin 7) : Dev nD ≃ Dev nD := ⟨(tgt · k), (src · k), fun c => src_tgt c k, fun c => tgt_src c k⟩
/-- The devices, each moved `k + 1` places back. -/
def shiftBack (k : Fin 7) : Dev nD ≃ Dev nD := (shift k).symm

theorem zeros2 : (![0, 0] : Fin 2 → Nat) = fun _ => 0 := funext fun a => by fin_cases a <;> rfl

end Cert.Exchange
-- ==== Proof.Schedule.lean ====
/- The exchange of the eight partial results: its semaphores, who raises each of them by how much, and what a raise
   hands over.

   Every device has one barrier cell, seven send cells and eight receive cells. A device's barrier cell has seven
   duties, one per other device: the device `k + 1` places before pays duty `k`, with the row of its own gather buffer
   that the waiting device is to fill. Send cell `k` is raised by the device's own copy `k`, which hands back a share of
   its row; receive cell `s` by the copy device `s` makes, which hands over row `s`, filled. A device's receive cell
   of its own number is never raised. -/
module

public import proofs.«01_k».proof.Proof.Base
public import Idealize.ShloMosaic.Lib.Transfers

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The barrier semaphore of collective id 0. -/
abbrev barS : Sem sig := (SemArray.scalar (sig.barrier 0 rfl) : Sems sig S_).sem
abbrev sendQ (k : Fin 7) : DmaSem sig := ⟨3 + k.val, by have := k.isLt; show 3 + k.val < 18; omega⟩
abbrev recvQ (s : Dev nD) : DmaSem sig := ⟨10 + s.val, by have : s.val < 8 := s.isLt; show 10 + s.val < 18; omega⟩

abbrev barCell (c : Dev nD) : GSem nD τ sig := ((c : Thread nD τ), .reg barS)
abbrev sendCell (c : Dev nD) (k : Fin 7) : GSem nD τ sig := ((c : Thread nD τ), .dma (sendQ k))
abbrev recvCell (c s : Dev nD) : GSem nD τ sig := ((c : Thread nD τ), .dma (recvQ s))

/-- A send semaphore as the kernel addresses it. -/
theorem send_sem (k : Fin 7) (o : Fin 1 → Nat) (ho : o = ![k.val]) (inb : ∀ a, o a + S1.size a ≤ S7.size a) :
    ((cc0_scratch3.slice (Rect.unit (s := S7) o S1.size inb)).squeeze S_ squeezes_S1_S_).sem = sendQ k := by
  subst ho
  refine Fin.ext ?_
  obtain ⟨j, hj⟩ : ∃ j : S1.Idx, Shape.reshapeEquiv squeezes_S1_S_.numel_eq (fun i => i.elim0) = j := ⟨_, rfl⟩
  show 3 + (S7.rowMajor ((Rect.unit (s := S7) ![k.val] S1.size inb).emb (Shape.reshapeEquiv squeezes_S1_S_.numel_eq fun i => i.elim0))).val = 3 + k.val
  rw [hj, Shape.rowMajor_val_one]
  have h0 : (j 0).val < 1 := (j 0).isLt
  show 3 + (k.val + 1 * (j 0).val) = 3 + k.val
  omega
/-- A receive semaphore as the kernel addresses it. -/
theorem recv_sem (s : Dev nD) (o : Fin 1 → Nat) (ho : o = ![s.val]) (inb : ∀ a, o a + S1.size a ≤ S8.size a) :
    ((cc0_scratch4.slice (Rect.unit (s := S8) o S1.size inb)).squeeze S_ squeezes_S1_S_).sem = recvQ s := by
  subst ho
  refine Fin.ext ?_
  obtain ⟨j, hj⟩ : ∃ j : S1.Idx, Shape.reshapeEquiv squeezes_S1_S_.numel_eq (fun i => i.elim0) = j := ⟨_, rfl⟩
  show 10 + (S8.rowMajor ((Rect.unit (s := S8) ![s.val] S1.size inb).emb (Shape.reshapeEquiv squeezes_S1_S_.numel_eq fun i => i.elim0))).val = 10 + s.val
  rw [hj, Shape.rowMajor_val_one]
  have h0 : (j 0).val < 1 := (j 0).isLt
  show 10 + (s.val + 1 * (j 0).val) = 10 + s.val
  omega

/-! ## The gather buffer's rows -/

theorem inb_row (r : Dev nD) : ∀ a, (![r.val, 0, 0] : Fin 3 → Nat) a + S1x2x1024.size a ≤ S8x2x1024.size a := by
  have h : r.val < 8 := r.isLt
  intro a
  fin_cases a
  · show r.val + 1 ≤ 8
    omega
  · show 0 + 2 ≤ 2
    omega
  · show 0 + 1024 ≤ 1024
    omega

abbrev rowRect (r : Dev nD) : Rect S8x2x1024 := Rect.unit (s := S8x2x1024) ![r.val, 0, 0] S1x2x1024.size (inb_row r)
/-- The row's indices. -/
def rowSet (r : Dev nD) : Finset S8x2x1024.Idx := (rowRect r).set

/-- A row of the gather buffer, as the copies address it. -/
abbrev rowM (o : Fin 3 → Nat) (inb : ∀ a, o a + S1x2x1024.size a ≤ S8x2x1024.size a) : Memref sig .tc .vmem S2x1024 .f32 :=
  ((Memref.whole cc0_scratch2).slice (Rect.unit (s := S8x2x1024) o S1x2x1024.size inb) (fun _ => rfl)).squeeze S2x1024 squeezes_S1x2x1024_S2x1024

theorem rowM_set (r : Dev nD) (inb) : (rowM ![r.val, 0, 0] inb).view.set = rowSet r := by
  unfold rowSet
  simp only [Memref.view_squeeze, View.set_reshape, Memref.view_slice, Memref.view_whole]
  exact View.set_slice_whole _ _

/-- The bytes of a row, as a DMA semaphore counts them. -/
abbrev N : ℕ := (rowM ![0, 0, 0] (inb_row 0)).view.dmaCredit
theorem N_pos : 0 < N := View.dmaCredit_pos _ (by decide)
theorem rowM_credit (o inb) : (rowM o inb).view.dmaCredit = N := rfl

/-- Device `c` holds the elements `S` of its gather buffer, at contents `f`. -/
def gPts (c : Dev nD) (S : Finset S8x2x1024.Idx) (q : PosShare TreeShare) (f : Vec F S8x2x1024 .f32) : sProp 𝕄 :=
  ((c : Thread nD τ).loc cc0_scratch2) ↦[S]{q} f

instance gPts_storable (c : Dev nD) (S) (q) (f) : BI.Storable (upEmb : UEmb _ 𝕄) (gPts (F := F) c S q f) := by
  unfold gPts; infer_instance

/-! ## The schedule -/

section Sched

-- what the eight devices' partial results are, row by row: what every gather buffer is to hold at the end
variable (g : Vec F S8x2x1024 .f32)

/-- What the device `k + 1` places before `c` hands over with its signal: row `c` of its own gather buffer. -/
def barPay (c : Dev nD) (k : Fin 7) : sProp 𝕄 := iprop(∃ f, gPts (F := F) (src c k) (rowSet c) fullShare f)
/-- What the device's own copy `k` hands back: a share of its own row. -/
def sendPay (c : Dev nD) (k : Fin 7) : sProp 𝕄 := gPts c (rowSet c) (Transfers.shareTok fullShare 7 k) g
/-- What device `s`'s copy hands over: row `s`, filled. -/
def recvPay (c s : Dev nD) : sProp 𝕄 := gPts c (rowSet s) fullShare g

/-- The duties of a cell at round 0. -/
def duties0 (x : GSem nD τ sig) : Finset (Fin 7) :=
  match x.2 with
  | .reg s => if s = barS then Finset.univ else ∅
  | .dma q => if 3 ≤ q.val ∧ q.val < 10 then {0} else if 10 ≤ q.val ∧ q.val ≠ 10 + x.1.1.val then {0} else ∅

/-- What a duty hands over. -/
def payload0 (x : GSem nD τ sig) (d : Fin 7) : sProp 𝕄 :=
  match x.2 with
  | .reg _ => barPay x.1.1 d
  | .dma q =>
    if h : 3 ≤ q.val ∧ q.val < 10 then sendPay g x.1.1 ⟨q.val - 3, by omega⟩
    else if h : 10 ≤ q.val then recvPay g x.1.1 ⟨q.val - 10, by have : q.val < 18 := q.isLt; show q.val - 10 < 8; omega⟩
    else iprop(emp)

/-- The exchange: one round. -/
def Rd : Rounds.Schedule (GSem nD τ sig) (Fin 7) 𝕄 where
  duties x r := if r = 0 ∧ x.1.2 = .tc then duties0 x else ∅
  unitless _ := False
  amount x _ _ := match x.2 with | .reg _ => 1 | .dma _ => N
  payload x _ d := payload0 g x d
  amount_pos x _ _ _ := by
    rcases x with ⟨t, s | q⟩
    · exact Nat.one_pos
    · exact N_pos

instance Rd_payload_storable (x : GSem nD τ sig) (r : ℕ) (d : Fin 7) :
    BI.Storable (upEmb : UEmb _ 𝕄) ((Rd (F := F) g).payload x r d) := by
  show BI.Storable upEmb (payload0 g x d)
  unfold payload0 barPay sendPay recvPay
  rcases x with ⟨t, s | q⟩
  · dsimp only; infer_instance
  · dsimp only; (repeat' split) <;> infer_instance

variable (c : Dev nD)

theorem duties_bar : (Rd g).duties (barCell c) 0 = Finset.univ := rfl
theorem duties_send (k : Fin 7) : (Rd g).duties (sendCell c k) 0 = {0} := by
  have := k.isLt
  show (if 3 ≤ 3 + k.val ∧ 3 + k.val < 10 then ({0} : Finset (Fin 7)) else _) = {0}
  exact if_pos ⟨by omega, by omega⟩
theorem duties_recv (s : Dev nD) (h : s ≠ c) : (Rd g).duties (recvCell c s) 0 = {0} := by
  have : s.val ≠ c.val := fun e => h (Fin.ext e)
  show (if 3 ≤ 10 + s.val ∧ 10 + s.val < 10 then ({0} : Finset (Fin 7)) else if 10 ≤ 10 + s.val ∧ 10 + s.val ≠ 10 + c.val then {0} else ∅) = {0}
  rw [if_neg (by omega), if_pos ⟨by omega, by omega⟩]
theorem duties_self (r : ℕ) : (Rd g).duties (recvCell c c) r = ∅ := by
  show (if r = 0 ∧ _ then (if 3 ≤ 10 + c.val ∧ 10 + c.val < 10 then ({0} : Finset (Fin 7)) else if 10 ≤ 10 + c.val ∧ 10 + c.val ≠ 10 + c.val then {0} else ∅) else ∅) = ∅
  rw [if_neg (c := 3 ≤ 10 + c.val ∧ 10 + c.val < 10) (by omega), if_neg (c := 10 ≤ 10 + c.val ∧ 10 + c.val ≠ 10 + c.val) (by omega), ite_self]
theorem duties_later (x : GSem nD τ sig) : ∀ r, 1 ≤ r → (Rd g).duties x r = ∅ :=
  fun r hr => if_neg fun h => by omega

theorem amount_bar (d : Fin 7) : (Rd g).amount (barCell c) 0 d = 1 := rfl
theorem amount_send (k d : Fin 7) : (Rd g).amount (sendCell c k) 0 d = N := rfl
theorem amount_recv (s : Dev nD) (d : Fin 7) : (Rd g).amount (recvCell c s) 0 d = N := rfl

theorem expect_bar : (Rd g).expect (barCell c) 0 = 7 := by
  unfold Schedule.expect Schedule.amountOf
  rw [duties_bar, Finset.sum_congr rfl fun d _ => amount_bar g c d, Finset.sum_const, Finset.card_univ, Fintype.card_fin, smul_eq_mul]
theorem expect_send (k : Fin 7) : (Rd g).expect (sendCell c k) 0 = N := by
  unfold Schedule.expect Schedule.amountOf; rw [duties_send, Finset.sum_singleton, amount_send]
theorem expect_recv (s : Dev nD) (h : s ≠ c) : (Rd g).expect (recvCell c s) 0 = N := by
  unfold Schedule.expect Schedule.amountOf; rw [duties_recv g c s h, Finset.sum_singleton, amount_recv]

theorem payload_bar (d : Fin 7) : (Rd g).payload (barCell c) 0 d = barPay c d := rfl
theorem payload_send (k d : Fin 7) : (Rd g).payload (sendCell c k) 0 d = sendPay g c k := by
  have := k.isLt
  show (if h : 3 ≤ 3 + k.val ∧ 3 + k.val < 10 then sendPay g c ⟨3 + k.val - 3, by omega⟩ else _) = sendPay g c k
  rw [dif_pos ⟨by omega, by omega⟩]
  congr 1; exact Fin.ext (by simp only; omega)
theorem payload_recv (s : Dev nD) (d : Fin 7) : (Rd g).payload (recvCell c s) 0 d = recvPay g c s := by
  have h8 : s.val < 8 := s.isLt
  show (if h : 3 ≤ 10 + s.val ∧ 10 + s.val < 10 then _ else if h : 10 ≤ 10 + s.val then recvPay g c ⟨10 + s.val - 10, by show 10 + s.val - 10 < 8; omega⟩ else _) = recvPay g c s
  rw [dif_neg (by omega), dif_pos (by omega)]
  congr 1; exact Fin.ext (by simp only; omega)

/-- All of the barrier's round: the seven rows. -/
theorem rest_bar : bigSep ((Rd g).duties (barCell c) 0 \ ∅) (fun d => (Rd g).payload (barCell c) 0 d) = bigSep Finset.univ fun k => barPay (F := F) c k := by
  rw [Finset.sdiff_empty, duties_bar]; rfl
theorem rest_send (k : Fin 7) : bigSep ((Rd g).duties (sendCell c k) 0 \ ∅) (fun d => (Rd g).payload (sendCell c k) 0 d) = sendPay g c k := by
  rw [Finset.sdiff_empty, duties_send, bigSep_singleton, payload_send]
theorem rest_recv (s : Dev nD) (h : s ≠ c) : bigSep ((Rd g).duties (recvCell c s) 0 \ ∅) (fun d => (Rd g).payload (recvCell c s) 0 d) = recvPay g c s := by
  rw [Finset.sdiff_empty, duties_recv g c s h, bigSep_singleton, payload_recv]

end Sched

/-! ## What a device owes, and the levels of the cells -/

/-- What is left of a family of seven once the first `n` are done. -/
def left {M : Type} [AddCommMonoid M] (T : Fin 7 → M) (n : ℕ) : M := ∑ k : Fin 7, if k.val < n then 0 else T k

theorem left_step {M : Type} [AddCommMonoid M] (T : Fin 7 → M) (k : Fin 7) : left T k.val = left T (k.val + 1) + T k := by
  unfold left
  rw [← Finset.sum_erase_add Finset.univ (fun l : Fin 7 => if l.val < k.val then 0 else T l) (Finset.mem_univ k), ← Finset.sum_erase_add Finset.univ (fun l : Fin 7 => if l.val < k.val + 1 then 0 else T l) (Finset.mem_univ k),
    if_neg (Nat.lt_irrefl _), if_pos (Nat.lt_succ_self _), add_zero]
  congr 1
  refine Finset.sum_congr rfl fun l hl => ?_
  have : l.val ≠ k.val := fun e => (Finset.mem_erase.mp hl).1 (Fin.ext e)
  by_cases h : l.val < k.val
  · rw [if_pos h, if_pos (by omega)]
  · rw [if_neg h, if_neg (by omega)]
theorem left_all {M : Type} [AddCommMonoid M] (T : Fin 7 → M) : left T 7 = 0 :=
  Finset.sum_eq_zero fun k _ => if_pos k.isLt
theorem left_zero {M : Type} [AddCommMonoid M] (T : Fin 7 → M) : left T 0 = ∑ k, T k :=
  Finset.sum_congr rfl fun k _ => if_neg (Nat.not_lt_zero _)

/-- The signal of distance `k + 1`, as device `c` owes it. -/
def oBar (c : Dev nD) (k : Fin 7) : CellTallies nD τ sig Unit := tallyAt (barCell (tgt c k)) () 1
/-- The copy of distance `k + 1`, as device `c` owes it. -/
def oRecv (c : Dev nD) (k : Fin 7) : CellTallies nD τ sig Unit := tallyAt (recvCell (tgt c k) c) () N

/-- What device `c` owes at launch. -/
def O₀ (c : Dev nD) : CellTallies nD τ sig Unit := left (oRecv c) 0 + left (oBar c) 0

def L (x : GSem nD τ sig) : Finset Unit := if x.1.2 = .tc then {()} else ∅
/-- Barrier cells at 1, receive cells at 2, every other at 0. -/
def lv (x : GSem nD τ sig) (_ : Unit) : ℕ := match x.2 with | .reg _ => 1 | .dma q => if 10 ≤ q.val then 2 else 0

theorem L_of_ne (x : GSem nD τ sig) (h : x.1.2 ≠ .tc) : L x = ∅ := if_neg h
theorem L_tc (c : Dev nD) (sm : SemLoc sig) : L ((c : Thread nD τ), sm) = {()} := if_pos rfl

theorem left_pos {T : Fin 7 → CellTallies nD τ sig Unit} {n : ℕ} {x : GSem nD τ sig} {u : Unit} (h : 0 < left T n x u) : ∃ k, 0 < T k x u := by
  by_contra hn
  have h0 : ∀ k, T k x u = 0 := fun k => Nat.eq_zero_of_not_pos fun hk => hn ⟨k, hk⟩
  have : left T n x u = 0 := by
    unfold left
    rw [Finset.sum_apply, Finsupp.finsetSum_apply]
    refine Finset.sum_eq_zero fun k _ => ?_
    by_cases hk : k.val < n
    · rw [if_pos hk]; rfl
    · rw [if_neg hk]; exact h0 k
  omega

theorem oRecv_pos {c : Dev nD} {k : Fin 7} {x : GSem nD τ sig} {u : Unit} (h : 0 < oRecv c k x u) : x = recvCell (tgt c k) c := by
  unfold oRecv at h; rw [tallyAt_apply] at h
  by_contra hn; rw [if_neg (fun e => hn e.1)] at h; exact Nat.lt_irrefl 0 h
theorem oBar_pos {c : Dev nD} {k : Fin 7} {x : GSem nD τ sig} {u : Unit} (h : 0 < oBar c k x u) : x = barCell (tgt c k) := by
  unfold oBar at h; rw [tallyAt_apply] at h
  by_contra hn; rw [if_neg (fun e => hn e.1)] at h; exact Nat.lt_irrefl 0 h

/-- What is owed anywhere on the way lies at a receive cell or at a barrier cell. -/
theorem owed_pos {c : Dev nD} {n n' : ℕ} {x : GSem nD τ sig} {u : Unit} (h : 0 < (left (oRecv c) n + left (oBar c) n') x u) :
    ∃ k, x = recvCell (tgt c k) c ∨ x = barCell (tgt c k) := by
  rw [Pi.add_apply, Finsupp.add_apply] at h
  rcases Nat.eq_zero_or_pos (left (oRecv c) n x u) with h0 | h0
  · obtain ⟨k, hk⟩ := left_pos (T := oBar c) (n := n') (x := x) (u := u) (by omega)
    exact ⟨k, .inr (oBar_pos hk)⟩
  · obtain ⟨k, hk⟩ := left_pos h0
    exact ⟨k, .inl (oRecv_pos hk)⟩

theorem lv_recv (c s : Dev nD) (u : Unit) : lv (recvCell c s) u = 2 := if_pos (Nat.le_add_right _ _)
theorem lv_bar (c : Dev nD) (u : Unit) : lv (barCell c) u = 1 := rfl

/-- A staging semaphore may be waited on whatever is still owed. -/
theorem mayWait_stage (c : Dev nD) (q : DmaSem sig) (hq : q.val < 10) (n n' : ℕ) :
    (levAts L lv : sProp 𝕄) ⊢ MayWait (c : Thread nD τ) (.dma q) () (left (oRecv c) n + left (oBar c) n') := by
  refine MayOwe.of_cut (L := L) (lev := lv) 0 (fun p hp => by rw [Finset.mem_singleton.mp hp, L_tc]; exact Finset.mem_singleton_self _)
    (fun x u hx => by
      obtain ⟨k, rfl | rfl⟩ := owed_pos hx
      · rw [L_tc]; exact Finset.mem_singleton_self _
      · rw [L_tc]; exact Finset.mem_singleton_self _)
    (fun p hp => by
      rw [Finset.mem_singleton.mp hp]
      show (if 10 ≤ q.val then 2 else 0) ≤ 0
      rw [if_neg (by omega)])
    (fun x u hx => by
      obtain ⟨k, rfl | rfl⟩ := owed_pos hx
      · rw [lv_recv]; decide
      · rw [lv_bar]; decide)

/-- At its barrier wait a device owes receive cells only, all above its barrier cell. -/
theorem mayWait_bar (c : Dev nD) :
    (levAts L lv : sProp 𝕄) ⊢ MayWait (c : Thread nD τ) (.reg barS) () (left (oRecv c) 0) := by
  refine MayOwe.of_cut (L := L) (lev := lv) 1 (fun p hp => by rw [Finset.mem_singleton.mp hp, L_tc]; exact Finset.mem_singleton_self _)
    (fun x u hx => by
      obtain ⟨k, hk⟩ := left_pos hx
      rw [oRecv_pos hk, L_tc]; exact Finset.mem_singleton_self _)
    (fun p hp => by rw [Finset.mem_singleton.mp hp]; exact Nat.le_refl _)
    (fun x u hx => by
      obtain ⟨k, hk⟩ := left_pos hx
      rw [oRecv_pos hk, lv_recv]; decide)

end Cert.Exchange
-- ==== Proof.Actions.lean ====
/- The exchange's four kinds of operation, each once for every distance: the signal, the copy, the wait for a copy that
   arrives, the wait for a copy sent. Each moves one member of a family of seven from its state before to its state
   after. -/
module

public import proofs.«01_k».proof.Proof.Schedule

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families of seven -/

/-- The family after the first `n` members have moved from `A` to `B`. -/
def fam (A B : Fin 7 → sProp 𝕄) (n : ℕ) : sProp 𝕄 := bigSep Finset.univ fun k => if k.val < n then B k else A k

theorem fam_zero (A B : Fin 7 → sProp 𝕄) : fam A B 0 = bigSep Finset.univ A :=
  bigSep_congr fun k _ => if_neg (Nat.not_lt_zero _)
theorem fam_all (A B : Fin 7 → sProp 𝕄) : fam A B 7 = bigSep Finset.univ B :=
  bigSep_congr fun k _ => if_pos k.isLt

theorem fam_take (A B : Fin 7 → sProp 𝕄) (k : Fin 7) : fam A B k.val ⊢ iprop(A k ∗ (B k -∗ fam A B (k.val + 1))) := by
  unfold fam
  rw [bigSep_univ_at _ k, bigSep_univ_at (fun l : Fin 7 => if l.val < k.val + 1 then B l else A l) k,
    if_neg (Nat.lt_irrefl _), if_pos (Nat.lt_succ_self _),
    bigSep_congr (s := Finset.univ.erase k) (Φ := fun l : Fin 7 => if l.val < k.val then B l else A l)
      (Ψ := fun l : Fin 7 => if l.val < k.val + 1 then B l else A l) (fun l hl => by
        have : l.val ≠ k.val := fun e => (Finset.mem_erase.mp hl).1 (Fin.ext e)
        by_cases h : l.val < k.val
        · rw [if_pos h, if_pos (by omega)]
        · rw [if_neg h, if_neg (by omega)])]
  iintro ⟨HA, Hr⟩
  isplitl [HA]; · iexact HA
  iintro HB
  isplitl [HB]; · iexact HB
  iexact Hr

/-! ## Every cell, under one index -/

abbrev barIx : Fin 16 := Fin.castAdd 15 (0 : Fin 1)
abbrev ownIx (j : Fin 15) : Fin 16 := Fin.natAdd 1 j
abbrev sendIx (k : Fin 7) : Fin 16 := Fin.natAdd 1 (Fin.castAdd 8 k)
abbrev recvIx (s : Dev nD) : Fin 16 := Fin.natAdd 1 (Fin.natAdd 7 s)

/-- The kernel's own fifteen semaphores: the seven send, the eight receive. -/
abbrev osem (j : Fin 15) : SemLoc sig := .dma ⟨3 + j.val, by have := j.isLt; show 3 + j.val < 18; omega⟩
/-- The barrier semaphore and the fifteen. -/
def csem (j : Fin 16) : SemLoc sig := if h : j.val = 0 then .reg barS else osem ⟨j.val - 1, by omega⟩
abbrev kcell (ck : Dev nD × Fin 16) : GSem nD τ sig := ((ck.1 : Thread nD τ), csem ck.2)

theorem csem_own (j : Fin 15) : csem (ownIx j) = osem j := by
  unfold csem
  rw [dif_neg (by show ¬ 1 + j.val = 0; omega)]
  congr 1; exact Fin.ext (by show 1 + j.val - 1 = j.val; omega)
theorem kcell_bar (c : Dev nD) : kcell (c, barIx) = barCell c := rfl
theorem kcell_send (c : Dev nD) (k : Fin 7) : kcell (c, sendIx k) = sendCell c k := by
  show ((c : Thread nD τ), csem (ownIx (Fin.castAdd 8 k))) = _
  rw [csem_own]; rfl
theorem kcell_recv (c s : Dev nD) : kcell (c, recvIx s) = recvCell c s := by
  show ((c : Thread nD τ), csem (ownIx (Fin.natAdd 7 s))) = _
  rw [csem_own]
  show ((c : Thread nD τ), SemLoc.dma _) = ((c : Thread nD τ), SemLoc.dma _)
  congr 2; exact Fin.ext (by show 3 + (7 + s.val) = 10 + s.val; omega)

/-- A family over one device's cells, dealt into its barrier cell, its send cells, its receive cells. -/
theorem split_own (Φ : Fin 15 → sProp 𝕄) : bigSep Finset.univ Φ
    = iprop((bigSep Finset.univ fun k : Fin 7 => Φ (Fin.castAdd 8 k)) ∗ bigSep Finset.univ fun s : Dev nD => Φ (Fin.natAdd 7 s)) := by
  rw [bigSep_univ_equiv (finSumFinEquiv : Fin 7 ⊕ Fin 8 ≃ Fin 15) Φ, bigSep_univ_sum]; rfl
theorem split_cells (Φ : Fin 16 → sProp 𝕄) : bigSep Finset.univ Φ = iprop(Φ barIx ∗ bigSep Finset.univ fun j : Fin 15 => Φ (ownIx j)) := by
  rw [bigSep_univ_equiv (finSumFinEquiv : Fin 1 ⊕ Fin 15 ≃ Fin 16) Φ, bigSep_univ_sum,
    bigSep_univ_eq_bigSepL [(0 : Fin 1)] (by decide) (by decide), bigSepL_singleton]; rfl

section Actions

variable (g : Vec F S8x2x1024 .f32) (K : Dev nD × Fin 16 → ℕ)

/-- Every cell's invariant, and that its round 0 is open. -/
def records : sProp 𝕄 :=
  iprop((bigSep Finset.univ fun ck : Dev nD × Fin 16 => cellInv ER (Rd g) (K ck) (kcell ck))
    ∗ bigSep Finset.univ fun ck : Dev nD × Fin 16 => reached ER (kcell ck) 0)

instance records_persistent : BI.Persistent (records g K) := by unfold records; infer_instance

theorem record_at (ck : Dev nD × Fin 16) (x : GSem nD τ sig) (hx : kcell ck = x) :
    records g K ⊢ iprop(cellInv ER (Rd g) (K ck) x ∗ reached ER x 0) := by
  subst hx; unfold records
  exact BI.sep_mono (bigSep_elim (Φ := fun ck : Dev nD × Fin 16 => cellInv ER (Rd g) (K ck) (kcell ck)) (Finset.mem_univ ck))
    (bigSep_elim (Φ := fun ck : Dev nD × Fin 16 => (reached ER (kcell ck) 0 : sProp 𝕄)) (Finset.mem_univ ck))

/-- What the device owes, whatever it has waited for. -/
def debt (c : Dev nD) (O : CellTallies nD τ sig Unit) : sProp 𝕄 := iprop(∃ W, owes (c : Thread nD τ) O W)

variable (c : Dev nD)

/-! ## The signals -/

def sigA (k : Fin 7) : sProp 𝕄 :=
  iprop(dutyTok ER (barCell (tgt c k)) 0 k ∗ ∃ f, gPts (F := F) c (rowSet (tgt c k)) fullShare f)
def sigB (_ : Fin 7) : sProp 𝕄 := iprop(emp)

theorem wp_sig (k : Fin 7) (n : Dev nD) (hn : n = tgt c k) {α : Type} {Q : α → sProp 𝕄}
    {κ : PUnit → Prog (TpuEff nD τ sig (Elt F) Λ₀ .tc) α} :
    iprop(records g K ∗ fam (sigA (F := F) c) (sigB (F := F)) k.val ∗ debt (F := F) c (left (oRecv c) 0 + left (oBar c) k.val))
      ⊢ iprop(((fam (sigA (F := F) c) (sigB (F := F)) (k.val + 1) ∗ debt (F := F) c (left (oRecv c) 0 + left (oBar c) (k.val + 1)))
            -∗ wp frame (wpE (defs₀ (F := F)) 𝒱₀ (c : Thread nD τ) none) Set.univ (κ ⟨⟩) Q)
          -∗ wp frame (wpE (defs₀ (F := F)) 𝒱₀ (c : Thread nD τ) none) Set.univ
              (.op (.semSignal ((n, .tc) : Thread nD τ) barS (1#32).toInt) κ) Q) := by
  subst hn
  iintro ⟨#HR, Hf, Ho⟩ Hk
  ihave HR' := (record_at g K (tgt c k, barIx) _ (kcell_bar _)) $$ HR
  icases HR' with ⟨#HI, #Hr⟩
  ihave Hf' := (fam_take (sigA (F := F) c) (sigB (F := F)) k) $$ Hf
  unfold sigA debt
  icases Hf' with ⟨⟨Ht, ⟨%f, Hrow⟩⟩, Hrest⟩
  icases Ho with ⟨%W, Ho⟩
  iapply (Rounds.wp_signal 𝒱₀ ER (Rd g) (c : Thread nD τ) none (dst := (tgt c k : Thread nD τ)) (κ := K (tgt c k, barIx))
      (d := k) (by rw [duties_bar]; exact Finset.mem_univ _) ((amount_bar g (tgt c k) k).trans (by decide)) ()
      (left (oRecv c) 0 + left (oBar c) (k.val + 1)) (show left (oRecv c) 0 + left (oBar c) k.val = left (oRecv c) 0 + left (oBar c) (k.val + 1) + oBar c k from by
        rw [left_step (oBar c) k, ← add_assoc])) $$ [Ho Ht Hrow]
  · isplitr; · iexact HI
    isplitl [Ho]; · iexact Ho
    isplitl [Ht]; · iexact Ht
    isplitl [Hrow]
    · rw [payload_bar]; unfold barPay; rw [src_tgt]; iexists f; iexact Hrow
    iexact Hr
  iintro Ho
  iapply Hk
  isplitl [Hrest]
  · iapply Hrest; unfold sigB; iempintro
  iexists W; iexact Ho

/-! ## The copies -/

def copyA (k : Fin 7) : sProp 𝕄 :=
  iprop(dutyTok ER (sendCell c k) 0 (0 : Fin 7) ∗ dutyTok ER (recvCell (tgt c k) c) 0 (0 : Fin 7)
    ∗ sendPay g c k ∗ ∃ f, gPts (F := F) (tgt c k) (rowSet c) fullShare f)
def copyB (k : Fin 7) : sProp 𝕄 := cred (tallyAt (sendCell c k) () N)

theorem wp_copy (k : Fin 7) (n : Dev nD) (hn : n = tgt c k) {α : Type} {Q : α → sProp 𝕄}
    (o6 : Fin 1 → Nat) (h6 : o6 = ![k.val]) {i6 : ∀ a, o6 a + S1.size a ≤ S7.size a}
    (o7 : Fin 1 → Nat) (h7 : o7 = ![c.val]) {i7 : ∀ a, o7 a + S1.size a ≤ S8.size a}
    (o5 : Fin 3 → Nat) (h5 : o5 = ![c.val, 0, 0]) {i5 : ∀ a, o5 a + S1x2x1024.size a ≤ S8x2x1024.size a}
    {hsc : (rowM o5 i5 : Memref sig (Dev.tc n : Thread nD τ).2.kind .vmem S2x1024 .f32).view.ref.isScScratch = false}
    {hsrc : (rowM o5 i5).view.WordExact} {hdst : (rowM o5 i5).view.WordExact}
    {hsem : DmaTarget.Typed .vmem
      (.dma ((cc0_scratch4.slice (Rect.unit (s := S8) o7 S1.size i7)).squeeze S_ squeezes_S1_S_).sem)
      (.remote (Dev.tc n : Thread nD τ) (rowM o5 i5) (.dma ((cc0_scratch3.slice (Rect.unit (s := S7) o6 S1.size i6)).squeeze S_ squeezes_S1_S_).sem) hsc)}
    {κ : PUnit → Prog (TpuEff nD τ sig (Elt F) Λ₀ .tc) α} :
    iprop(records g K ∗ fam (copyA g c) (copyB (F := F) c) k.val ∗ debt (F := F) c (left (oRecv c) k.val))
      ⊢ iprop(((fam (copyA g c) (copyB (F := F) c) (k.val + 1) ∗ debt (F := F) c (left (oRecv c) (k.val + 1)))
            -∗ wp frame (wpE (defs₀ (F := F)) 𝒱₀ (c : Thread nD τ) none) Set.univ (κ ⟨⟩) Q)
          -∗ wp frame (wpE (defs₀ (F := F)) 𝒱₀ (c : Thread nD τ) none) Set.univ
              (.op (.enqueueDma (rowM o5 i5)
                (.remote (Dev.tc n : Thread nD τ) (rowM o5 i5) (.dma ((cc0_scratch3.slice (Rect.unit (s := S7) o6 S1.size i6)).squeeze S_ squeezes_S1_S_).sem) hsc)
                (.dma ((cc0_scratch4.slice (Rect.unit (s := S8) o7 S1.size i7)).squeeze S_ squeezes_S1_S_).sem) hsrc hdst hsem) κ) Q) := by
  subst hn
  have e6 := send_sem k o6 h6 i6
  have e7 := recv_sem c o7 h7 i7
  generalize ((cc0_scratch3.slice (Rect.unit (s := S7) o6 S1.size i6)).squeeze S_ squeezes_S1_S_).sem = q6 at e6 hsem ⊢
  generalize ((cc0_scratch4.slice (Rect.unit (s := S8) o7 S1.size i7)).squeeze S_ squeezes_S1_S_).sem = q7 at e7 hsem ⊢
  subst e6 e7 h5
  iintro ⟨#HR, Hf, Ho⟩ Hk
  ihave HR₁ := (record_at g K (c, sendIx k) _ (kcell_send c k)) $$ HR
  icases HR₁ with ⟨#HI₁, #Hr₁⟩
  ihave HR₂ := (record_at g K (tgt c k, recvIx c) _ (kcell_recv (tgt c k) c)) $$ HR
  icases HR₂ with ⟨#HI₂, #Hr₂⟩
  ihave Hf' := (fam_take (copyA g c) (copyB (F := F) c) k) $$ Hf
  unfold copyA debt sendPay gPts
  icases Hf' with ⟨⟨Ht₁, Ht₂, Hs, ⟨%f, Hd⟩⟩, Hrest⟩
  icases Ho with ⟨%W, Ho⟩
  rw [← rowM_set c i5]
  iapply (Rounds.wp_send_pointsTo 𝒱₀ ER (Rd g) (c : Thread nD τ) none (κ₁ := K (c, sendIx k)) (κ₂ := K (tgt c k, recvIx c))
    (r₁ := 0) (r₂ := 0) (d₁ := (0 : Fin 7)) (d₂ := (0 : Fin 7)) (fs := g) (fd := f) (q := Transfers.shareTok fullShare 7 k)
    (c' := (tgt c k : Thread nD τ)) (src := rowM ![c.val, 0, 0] i5)
    (dst := (rowM ![c.val, 0, 0] i5 : Memref sig (tgt c k : Thread nD τ).2.kind .vmem S2x1024 .f32))
    (hsc := hsc) (hsrc := hsrc) (hdst := hdst) (hsem := hsem)
    (by rw [duties_send]; exact Finset.mem_singleton_self _)
    (by rw [duties_recv g (tgt c k) c (tgt_ne c k).symm]; exact Finset.mem_singleton_self _)
    () () N rfl (amount_send g c k 0) (amount_recv g (tgt c k) c 0) (left (oRecv c) (k.val + 1)) (left_step (oRecv c) k) (W := W)
    (by rw [payload_send]; unfold sendPay gPts; rw [← rowM_set c i5])
    (by
      rw [payload_recv]; unfold recvPay gPts; rw [← rowM_set c i5]
      refine Entails.of_eq (pointsTo_congr fun i hi => ?_)
      rw [View.write_read_eq_piecewise]
      exact Finset.piecewise_eq_of_mem _ _ _ hi)) $$ [Ht₁ Ht₂ Hs Hd Ho]
  · isplitr; · iexact HI₁
    isplitr; · iexact HI₂
    isplitl [Hs]; · iexact Hs
    isplitl [Hd]; · iexact Hd
    isplitl [Ho]; · iexact Ho
    isplitl [Ht₁]; · iexact Ht₁
    isplitr; · iexact Hr₁
    isplitl [Ht₂]; · iexact Ht₂
    iexact Hr₂
  iintro ⟨Hc, Ho⟩
  iapply Hk
  isplitl [Hrest Hc]
  · iapply Hrest; unfold copyB; iexact Hc
  iexists W; iexact Ho

/-! ## The waits -/

def landA (k : Fin 7) : sProp 𝕄 :=
  iprop(cred (tallyAt (recvCell c (src c k)) () N) ∗ atPos ER (recvCell c (src c k)) 0 (∅ : Finset (Fin 7)) 0)
def landB (k : Fin 7) : sProp 𝕄 := iprop(recvPay g c (src c k) ∗ semVal (recvCell c (src c k)) 0)

/-- The wait for the copy that arrives from distance `k + 1`: its row, and its cell closed. -/
theorem wp_land (k : Fin 7) {α : Type} {Q : α → sProp 𝕄}
    (o7 : Fin 1 → Nat) (h7 : o7 = ![(src c k).val]) {i7 : ∀ a, o7 a + S1.size a ≤ S8.size a}
    (o5 o5' : Fin 3 → Nat) {i5 : ∀ a, o5 a + S1x2x1024.size a ≤ S8x2x1024.size a} {i5' : ∀ a, o5' a + S1x2x1024.size a ≤ S8x2x1024.size a}
    {hsrc : (rowM o5 i5).view.WordExact} {hdst : (rowM o5' i5').view.WordExact}
    {κ : PUnit → Prog (TpuEff nD τ sig (Elt F) Λ₀ .tc) α} :
    iprop(records g K ∗ fam (landA (F := F) c) (landB g c) k.val ∗ debt (F := F) c 0)
      ⊢ iprop(((fam (landA (F := F) c) (landB g c) (k.val + 1) ∗ debt (F := F) c 0)
            -∗ wp frame (wpE (defs₀ (F := F)) 𝒱₀ (c : Thread nD τ) none) Set.univ (κ ⟨⟩) Q)
          -∗ wp frame (wpE (defs₀ (F := F)) 𝒱₀ (c : Thread nD τ) none) Set.univ
              (.op (.waitDma2 ((cc0_scratch4.slice (Rect.unit (s := S8) o7 S1.size i7)).squeeze S_ squeezes_S1_S_).sem
                (rowM o5 i5) (rowM o5' i5') hsrc hdst) κ) Q) := by
  rw [recv_sem (src c k) o7 h7 i7]
  iintro ⟨#HR, Hf, Ho⟩ Hk
  ihave HR₁ := (record_at g K (c, recvIx (src c k)) _ (kcell_recv c (src c k))) $$ HR
  icases HR₁ with ⟨#HI, -⟩
  ihave Hf' := (fam_take (landA (F := F) c) (landB g c) k) $$ Hf
  unfold landA debt
  icases Hf' with ⟨⟨Hc, Ha⟩, Hrest⟩
  icases Ho with ⟨%W, Ho⟩
  iapply (Rounds.wp_wait_rest_token 𝒱₀ ER (Rd g) (c : Thread nD τ) none (κ := K (c, recvIx (src c k)))
      (wpE_waitDma2_eq 𝒱₀ (c : Thread nD τ) none Set.univ) (Set.mem_univ _) () (O := 0) (W := W) (R := 0) (m := 0) (T := ∅)
      (by rw [Nat.zero_add, expect_recv g c _ (src_ne c k)])) $$ [Hc Ho Ha]
  · isplitr; · iexact HI
    isplitl [Hc]; · iexact Hc
    isplitl [Ho]; · iexact Ho
    isplitr; · rw [MayWait_zero]; iempintro
    iexact Ha
  iintro ⟨Ho, Ha, -, Hpay⟩
  ihave Hpay := (Entails.of_eq (rest_recv g c _ (src_ne c k))) $$ Hpay
  imod (Rounds.cell_close ER (Rd g) (Set.mem_univ (K (c, recvIx (src c k)))) (fun h => h) (R := 0 + 1) (duties_later g (recvCell c (src c k)))) $$ [Ha] with Hz
  · isplitr; · iexact HI
    iexact Ha
  iapply Hk
  isplitl [Hrest Hpay Hz]
  · iapply Hrest; unfold landB; isplitl [Hpay] <;> iassumption
  iexists _; iexact Ho

def backA (k : Fin 7) : sProp 𝕄 :=
  iprop(cred (tallyAt (sendCell c k) () N) ∗ atPos ER (sendCell c k) 0 (∅ : Finset (Fin 7)) 0)
def backB (k : Fin 7) : sProp 𝕄 := iprop(sendPay g c k ∗ semVal (sendCell c k) 0)

/-- The wait for the device's own copy `k` to have been read: the share it was lent, and its cell closed. -/
theorem wp_back (k : Fin 7) {α : Type} {Q : α → sProp 𝕄}
    (o6 : Fin 1 → Nat) (h6 : o6 = ![k.val]) {i6 : ∀ a, o6 a + S1.size a ≤ S7.size a}
    (o5 o5' : Fin 3 → Nat) {i5 : ∀ a, o5 a + S1x2x1024.size a ≤ S8x2x1024.size a} {i5' : ∀ a, o5' a + S1x2x1024.size a ≤ S8x2x1024.size a}
    {hsrc : (rowM o5 i5).view.WordExact} {hdst : (rowM o5' i5').view.WordExact}
    {κ : PUnit → Prog (TpuEff nD τ sig (Elt F) Λ₀ .tc) α} :
    iprop(records g K ∗ fam (backA (F := F) c) (backB g c) k.val ∗ debt (F := F) c 0)
      ⊢ iprop(((fam (backA (F := F) c) (backB g c) (k.val + 1) ∗ debt (F := F) c 0)
            -∗ wp frame (wpE (defs₀ (F := F)) 𝒱₀ (c : Thread nD τ) none) Set.univ (κ ⟨⟩) Q)
          -∗ wp frame (wpE (defs₀ (F := F)) 𝒱₀ (c : Thread nD τ) none) Set.univ
              (.op (.waitDma2 ((cc0_scratch3.slice (Rect.unit (s := S7) o6 S1.size i6)).squeeze S_ squeezes_S1_S_).sem
                (rowM o5 i5) (rowM o5' i5') hsrc hdst) κ) Q) := by
  rw [send_sem k o6 h6 i6]
  iintro ⟨#HR, Hf, Ho⟩ Hk
  ihave HR₁ := (record_at g K (c, sendIx k) _ (kcell_send c k)) $$ HR
  icases HR₁ with ⟨#HI, -⟩
  ihave Hf' := (fam_take (backA (F := F) c) (backB g c) k) $$ Hf
  unfold backA debt
  icases Hf' with ⟨⟨Hc, Ha⟩, Hrest⟩
  icases Ho with ⟨%W, Ho⟩
  iapply (Rounds.wp_wait_rest_token 𝒱₀ ER (Rd g) (c : Thread nD τ) none (κ := K (c, sendIx k))
      (wpE_waitDma2_eq 𝒱₀ (c : Thread nD τ) none Set.univ) (Set.mem_univ _) () (O := 0) (W := W) (R := 0) (m := 0) (T := ∅)
      (by rw [Nat.zero_add, expect_send g c k])) $$ [Hc Ho Ha]
  · isplitr; · iexact HI
    isplitl [Hc]; · iexact Hc
    isplitl [Ho]; · iexact Ho
    isplitr; · rw [MayWait_zero]; iempintro
    iexact Ha
  iintro ⟨Ho, Ha, -, Hpay⟩
  ihave Hpay := (Entails.of_eq (rest_send g c k)) $$ Hpay
  imod (Rounds.cell_close ER (Rd g) (Set.mem_univ (K (c, sendIx k))) (fun h => h) (R := 0 + 1) (duties_later g (sendCell c k))) $$ [Ha] with Hz
  · isplitr; · iexact HI
    iexact Ha
  iapply Hk
  isplitl [Hrest Hpay Hz]
  · iapply Hrest; unfold backB; isplitl [Hpay] <;> iassumption
  iexists _; iexact Ho

/-- The wait on the device's own barrier for all seven signals: the seven rows to be filled, and the cell closed. -/
theorem wp_gate {α : Type} {Q : α → sProp 𝕄} {κ : PUnit → Prog (TpuEff nD τ sig (Elt F) Λ₀ .tc) α} :
    iprop(records g K ∗ levAts L lv ∗ cred (tallyAt (barCell c) () 7) ∗ atPos ER (barCell c) 0 (∅ : Finset (Fin 7)) 0 ∗ debt (F := F) c (left (oRecv c) 0))
      ⊢ iprop((((bigSep Finset.univ fun k => barPay (F := F) c k) ∗ semVal (barCell c) 0 ∗ debt (F := F) c (left (oRecv c) 0))
            -∗ wp frame (wpE (defs₀ (F := F)) 𝒱₀ (c : Thread nD τ) none) Set.univ (κ ⟨⟩) Q)
          -∗ wp frame (wpE (defs₀ (F := F)) 𝒱₀ (c : Thread nD τ) none) Set.univ (.op (.semWait barS (7#32).toInt) κ) Q) := by
  iintro ⟨#HR, #Hlev, Hc, Ha, Ho⟩ Hk
  ihave HR₁ := (record_at g K (c, barIx) _ (kcell_bar c)) $$ HR
  icases HR₁ with ⟨#HI, -⟩
  unfold debt
  icases Ho with ⟨%W, Ho⟩
  iapply (Rounds.wp_wait_rest_token 𝒱₀ ER (Rd g) (c : Thread nD τ) none (κ := K (c, barIx))
      (wpE_semWait_eq 𝒱₀ (c : Thread nD τ) none Set.univ) (Set.mem_univ _) () (O := left (oRecv c) 0) (W := W) (R := 0) (m := 0) (T := ∅)
      (by rw [expect_bar]; decide)) $$ [Hc Ho Ha]
  · isplitr; · iexact HI
    isplitl [Hc]; · iexact Hc
    isplitl [Ho]; · iexact Ho
    isplitr; · iapply (mayWait_bar c); iexact Hlev
    iexact Ha
  iintro ⟨Ho, Ha, -, Hpay⟩
  ihave Hpay := (Entails.of_eq (rest_bar g c)) $$ Hpay
  imod (Rounds.cell_close ER (Rd g) (Set.mem_univ (K (c, barIx))) (fun h => h) (R := 0 + 1) (duties_later g (barCell c))) $$ [Ha] with Hz
  · isplitr; · iexact HI
    iexact Ha
  iapply Hk
  isplitl [Hpay]; · iexact Hpay
  isplitl [Hz]; · iexact Hz
  iexists _; iexact Ho

/-- The one receive cell no copy raises is closed as it is. -/
theorem close_self : iprop(records g K ∗ atPos ER (recvCell c c) 0 (∅ : Finset (Fin 7)) 0) ⊢ (|={Set.univ}=> semVal (recvCell c c) 0 : sProp 𝕄) := by
  iintro ⟨#HR, Ha⟩
  ihave HR₁ := (record_at g K (c, recvIx c) _ (kcell_recv c c)) $$ HR
  icases HR₁ with ⟨#HI, -⟩
  iapply (Rounds.cell_close ER (Rd g) (Set.mem_univ (K (c, recvIx c))) (fun h => h) (R := 0) (fun r _ => duties_self g c r))
  isplitr; · iexact HI
  iexact Ha

/-! ## The four as moves of one state -/

def sigSt (n : ℕ) : sProp 𝕄 := iprop(records g K ∗ fam (sigA (F := F) c) (sigB (F := F)) n ∗ debt (F := F) c (left (oRecv c) 0 + left (oBar c) n))
def copySt (n : ℕ) : sProp 𝕄 := iprop(records g K ∗ fam (copyA g c) (copyB (F := F) c) n ∗ debt (F := F) c (left (oRecv c) n))
def landSt (n : ℕ) : sProp 𝕄 := iprop(records g K ∗ fam (landA (F := F) c) (landB g c) n ∗ debt (F := F) c 0)
def backSt (n : ℕ) : sProp 𝕄 := iprop(records g K ∗ fam (backA (F := F) c) (backB g c) n ∗ debt (F := F) c 0)

/-- The records, kept beside what a rule changes. -/
theorem keep {P P' W W' : sProp 𝕄} (h : iprop(records g K ∗ P) ⊢ iprop((P' -∗ W') -∗ W)) :
    iprop(records g K ∗ P) ⊢ iprop((iprop(records g K ∗ P') -∗ W') -∗ W) := by
  iintro ⟨#HR, HP⟩ Hk
  iapply h $$ [HP]
  · isplitr; · iexact HR
    iexact HP
  iintro HP
  iapply Hk
  isplitr; · iexact HR
  iexact HP

theorem sig_step (n : ℕ) (k : Fin 7) (hk : k.val = n) (m : Dev nD) (hm : m = tgt c k) {α : Type} {Q : α → sProp 𝕄}
    {κ : PUnit → Prog (TpuEff nD τ sig (Elt F) Λ₀ .tc) α} :
    sigSt g K c n ⊢ iprop((sigSt g K c (n + 1) -∗ wp frame (wpE (defs₀ (F := F)) 𝒱₀ (c : Thread nD τ) none) Set.univ (κ ⟨⟩) Q)
      -∗ wp frame (wpE (defs₀ (F := F)) 𝒱₀ (c : Thread nD τ) none) Set.univ
          (.op (.semSignal ((m, .tc) : Thread nD τ) barS (1#32).toInt) κ) Q) := by
  subst hk; exact keep g K (wp_sig g K c k m hm)

theorem copy_step (n : ℕ) (k : Fin 7) (hk : k.val = n) (m : Dev nD) (hm : m = tgt c k) {α : Type} {Q : α → sProp 𝕄}
    (o6 : Fin 1 → Nat) (h6 : o6 = ![k.val]) {i6 : ∀ a, o6 a + S1.size a ≤ S7.size a}
    (o7 : Fin 1 → Nat) (h7 : o7 = ![c.val]) {i7 : ∀ a, o7 a + S1.size a ≤ S8.size a}
    (o5 : Fin 3 → Nat) (h5 : o5 = ![c.val, 0, 0]) {i5 : ∀ a, o5 a + S1x2x1024.size a ≤ S8x2x1024.size a}
    {hsc : (rowM o5 i5 : Memref sig (Dev.tc m : Thread nD τ).2.kind .vmem S2x1024 .f32).view.ref.isScScratch = false}
    {hsrc : (rowM o5 i5).view.WordExact} {hdst : (rowM o5 i5).view.WordExact}
    {hsem : DmaTarget.Typed .vmem
      (.dma (((cc0_scratch4.slice (Rect.unit (s := S8) o7 S1.size i7)).squeeze S_ squeezes_S1_S_).sem))
      (.remote (Dev.tc m : Thread nD τ) (rowM o5 i5) (.dma (((cc0_scratch3.slice (Rect.unit (s := S7) o6 S1.size i6)).squeeze S_ squeezes_S1_S_).sem)) hsc)}
    {κ : PUnit → Prog (TpuEff nD τ sig (Elt F) Λ₀ .tc) α} :
    copySt g K c n ⊢ iprop((copySt g K c (n + 1) -∗ wp frame (wpE (defs₀ (F := F)) 𝒱₀ (c : Thread nD τ) none) Set.univ (κ ⟨⟩) Q)
      -∗ wp frame (wpE (defs₀ (F := F)) 𝒱₀ (c : Thread nD τ) none) Set.univ
          (.op (.enqueueDma (rowM o5 i5)
            (.remote (Dev.tc m : Thread nD τ) (rowM o5 i5) (.dma (((cc0_scratch3.slice (Rect.unit (s := S7) o6 S1.size i6)).squeeze S_ squeezes_S1_S_).sem)) hsc)
            (.dma (((cc0_scratch4.slice (Rect.unit (s := S8) o7 S1.size i7)).squeeze S_ squeezes_S1_S_).sem)) hsrc hdst hsem) κ) Q) := by
  subst hk; exact keep g K (wp_copy g K c k m hm o6 h6 o7 h7 o5 h5)

theorem land_step (n : ℕ) (k : Fin 7) (hk : k.val = n) {α : Type} {Q : α → sProp 𝕄}
    (o7 : Fin 1 → Nat) (h7 : o7 = ![(src c k).val]) {i7 : ∀ a, o7 a + S1.size a ≤ S8.size a}
    (o5 o5' : Fin 3 → Nat) {i5 : ∀ a, o5 a + S1x2x1024.size a ≤ S8x2x1024.size a} {i5' : ∀ a, o5' a + S1x2x1024.size a ≤ S8x2x1024.size a}
    {hsrc : (rowM o5 i5).view.WordExact} {hdst : (rowM o5' i5').view.WordExact}
    {κ : PUnit → Prog (TpuEff nD τ sig (Elt F) Λ₀ .tc) α} :
    landSt g K c n ⊢ iprop((landSt g K c (n + 1) -∗ wp frame (wpE (defs₀ (F := F)) 𝒱₀ (c : Thread nD τ) none) Set.univ (κ ⟨⟩) Q)
      -∗ wp frame (wpE (defs₀ (F := F)) 𝒱₀ (c : Thread nD τ) none) Set.univ
          (.op (.waitDma2 (((cc0_scratch4.slice (Rect.unit (s := S8) o7 S1.size i7)).squeeze S_ squeezes_S1_S_).sem) (rowM o5 i5) (rowM o5' i5') hsrc hdst) κ) Q) := by
  subst hk; exact keep g K (wp_land g K c k o7 h7 o5 o5')

theorem back_step (n : ℕ) (k : Fin 7) (hk : k.val = n) {α : Type} {Q : α → sProp 𝕄}
    (o6 : Fin 1 → Nat) (h6 : o6 = ![k.val]) {i6 : ∀ a, o6 a + S1.size a ≤ S7.size a}
    (o5 o5' : Fin 3 → Nat) {i5 : ∀ a, o5 a + S1x2x1024.size a ≤ S8x2x1024.size a} {i5' : ∀ a, o5' a + S1x2x1024.size a ≤ S8x2x1024.size a}
    {hsrc : (rowM o5 i5).view.WordExact} {hdst : (rowM o5' i5').view.WordExact}
    {κ : PUnit → Prog (TpuEff nD τ sig (Elt F) Λ₀ .tc) α} :
    backSt g K c n ⊢ iprop((backSt g K c (n + 1) -∗ wp frame (wpE (defs₀ (F := F)) 𝒱₀ (c : Thread nD τ) none) Set.univ (κ ⟨⟩) Q)
      -∗ wp frame (wpE (defs₀ (F := F)) 𝒱₀ (c : Thread nD τ) none) Set.univ
          (.op (.waitDma2 (((cc0_scratch3.slice (Rect.unit (s := S7) o6 S1.size i6)).squeeze S_ squeezes_S1_S_).sem) (rowM o5 i5) (rowM o5' i5') hsrc hdst) κ) Q) := by
  subst hk; exact keep g K (wp_back g K c k o6 h6 o5 o5')

end Actions

end Cert.Exchange
-- ==== Proof.Steps.lean ====
/- One grid point's scan of its block: sixty-four groups of eight rows, each compared with the running maxima.
   `accV` and `accI` are the two running arrays after some of the groups; the parts of the body that only read the
   block are shown, one by one, to return them. -/
module

public import proofs.«01_k».proof.Proof.Base

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The scan -/

theorem inb_seg (g : ℕ) (hg : g < 64) : ∀ a, (![8 * g, 0] : Fin 2 → Nat) a + S8x1024.size a ≤ S512x1024.size a := by
  intro a
  fin_cases a
  · show 8 * g + 8 ≤ 512
    omega
  · show 0 + 1024 ≤ 1024
    omega

/-- Group `g` of a block: its rows `8 g … 8 g + 7`. -/
def seg (X : Vec F S512x1024 .bf16) (g : ℕ) (hg : g < 64) : Vec F S8x1024 .bf16 :=
  View.ld X (Rect.unit (s := S512x1024) ![8 * g, 0] S8x1024.size (inb_seg g hg))

/-- The group as the scan compares it: in `f32`. -/
def wide (x : Vec F S8x1024 .bf16) : FVec F S8x1024 .f32 :=
  extf .f32 (shapeCast S8x1024 x shapeCasts_S8x1024_S8x1024) bitsLt_bf16_f32

/-- The running maxima after one more group. -/
def stepV (v : FVec F S8x1024 .f32) (x : Vec F S8x1024 .bf16) : FVec F S8x1024 .f32 :=
  select (cmpf .ogt (wide x) v) (wide x) v

/-- The number of group `g` at grid point `a`, as the kernel computes it. -/
def mark (a : BitVec 32) (g : ℕ) : IVec S8x1024 32 :=
  broadcast S8x1024 (Scalar.addi (Scalar.muli a 64#32) (BitVec.ofNat 32 g))

/-- The running group numbers after one more group. -/
def stepI (a : BitVec 32) (g : ℕ) (v : FVec F S8x1024 .f32) (x : Vec F S8x1024 .bf16) (w : IVec S8x1024 32) : IVec S8x1024 32 :=
  select (cmpf .ogt (wide x) v) (mark a g) w

/-- The maxima after the first `n` groups. -/
def accV (X : Vec F S512x1024 .bf16) (v : FVec F S8x1024 .f32) : (n : ℕ) → n ≤ 64 → FVec F S8x1024 .f32
  | 0, _ => v
  | n + 1, h => stepV (accV X v n (Nat.le_of_succ_le h)) (seg X n h)

/-- The group numbers after the first `n` groups. -/
def accI (a : BitVec 32) (X : Vec F S512x1024 .bf16) (v : FVec F S8x1024 .f32) (w : IVec S8x1024 32) : (n : ℕ) → n ≤ 64 → IVec S8x1024 32
  | 0, _ => w
  | n + 1, h => stepI a n (accV X v n (Nat.le_of_succ_le h)) (seg X n h) (accI a X v w n (Nat.le_of_succ_le h))

/-! ## Programs that only read the block -/

section Reads

variable (c : Dev nD) (b : Memref sig .tc .vmem S512x1024 .bf16) (X : Vec F S512x1024 .bf16)

/-- The program leaves the block as it is and returns `r`. -/
def Reads {α : Type} (p : Prog (TpuEff nD τ sig (Elt F) Λ₀ .tc) α) (r : α) : Prop :=
  ∀ Q : α → sProp 𝕄,
    iprop(owns (c : Thread nD τ) b fullShare X ∗ (owns (c : Thread nD τ) b fullShare X -∗ Q r))
      ⊢ wp frame (wpE (defs₀ (F := F)) 𝒱₀ (c : Thread nD τ) none) Set.univ p Q

variable {c b X}

theorem Reads.pure {α : Type} {r r' : α} (h : r = r') : Reads (F := F) c b X (Pure.pure r) r' := fun Q => by
  subst h
  rw [Prog.pure_eq_ret, wp_ret]
  iintro ⟨Hx, Hk⟩
  imodintro
  iapply Hk; iexact Hx

/-- A load of some eight rows, then the rest. -/
theorem Reads.load {α : Type} {off : Fin 2 → Nat} {inb : ∀ a, off a + S8x1024.size a ≤ S512x1024.size a}
    {hl : b.view.LoadsAt (Rect.unit (s := S512x1024) off S8x1024.size inb).toLoadRect}
    {k : Vec F S8x1024 .bf16 → Prog (TpuEff nD τ sig (Elt F) Λ₀ .tc) α} {r : α}
    (h : Reads c b X (k (View.ld X (Rect.unit (s := S512x1024) off S8x1024.size inb))) r) :
    Reads (F := F) c b X (Prog.lift (.load b (Rect.unit (s := S512x1024) off S8x1024.size inb).toLoadRect hl) >>= k) r := fun Q => by
  simp only [Prog.lift, Prog.bind_op, Prog.bind_ret]
  iintro ⟨Hx, Hk⟩
  unfold owns
  icases Hx with ⟨%f, %hf, Hx⟩
  iapply (wp_load 𝒱₀ (c : Thread nD τ) none Set.univ (m := b) (View.setOn_subset_set _ _)) $$ Hx; iintro Hx
  rw [View.readAt_eq_ld, hf]
  iapply (h Q)
  isplitl [Hx]
  · unfold owns; iexists f; isplitr; · (ipureintro; exact hf)
    iexact Hx
  unfold owns
  iexact Hk

/-- One such program after another. -/
theorem Reads.bind {α β : Type} {p : Prog (TpuEff nD τ sig (Elt F) Λ₀ .tc) α} {r : α}
    {k : α → Prog (TpuEff nD τ sig (Elt F) Λ₀ .tc) β} {r' : β} (h : Reads c b X p r) (h' : Reads c b X (k r) r') :
    Reads (F := F) c b X (p >>= k) r' := fun Q => by
  rw [wp_bind]
  iintro ⟨Hx, Hk⟩
  iapply (h _)
  isplitl [Hx]; · iexact Hx
  iintro Hx
  iapply (h' Q)
  isplitl [Hx]; · iexact Hx
  iexact Hk

end Reads

/-! ## The parts of the body between the start-up and the last group -/

section Parts

variable (i : grid0.Coords) (c : Dev nD)
  (arg1 : Memref sig .tc .vmem S512x1024 .bf16) (h1 : arg1.IsWhole) (arg2 : Memref sig .tc .vmem S2x1024 .f32) (h2 : arg2.IsWhole)
  (arg3 : Memref sig .tc .vmem S8x1024 .f32) (h3 : arg3.IsWhole) (arg4 : Memref sig .tc .vmem S8x1024 .i32) (h4 : arg4.IsWhole)
  (arg5 : Memref sig .tc .vmem S8x2x1024 .f32) (h5 : arg5.IsWhole) (arg6 : DmaSems sig S7) (arg7 : DmaSems sig S8)
  (a : BitVec 32) (X : Vec F S512x1024 .bf16) (v : FVec F S8x1024 .f32) (w : IVec S8x1024 32)

theorem reads_part10 : Reads c arg1 X
    (k0_part10 i arg1 h1 arg2 h2 arg3 h3 arg4 h4 arg5 h5 arg6 arg7 a (accI a X v w 2 (by decide))
      (cmpf .ogt (wide (seg X 2 (by decide))) (accV X v 2 (by decide))) (accV X v 3 (by decide)) (mark a 2))
    ⟨accV X v 7 (by decide), accI a X v w 7 (by decide), seg X 7 (by decide)⟩ := by
  rw [k0_part10_eq_skeleton]; unfold k0_part10_skel
  exact .load <| .load <| .load <| .load <| .load <| .pure rfl

theorem reads_part11 : Reads c arg1 X
    (k0_part11 i arg1 h1 arg2 h2 arg3 h3 arg4 h4 arg5 h5 arg6 arg7 a (accV X v 7 (by decide)) (accI a X v w 7 (by decide)) (seg X 7 (by decide)))
    ⟨accV X v 11 (by decide), accI a X v w 11 (by decide), shapeCast S8x1024 (seg X 11 (by decide)) shapeCasts_S8x1024_S8x1024, Scalar.muli a 64#32, 11#32⟩ := by
  rw [k0_part11_eq_skeleton]; unfold k0_part11_skel
  exact .load <| .load <| .load <| .load <| .pure rfl

theorem reads_part12 : Reads c arg1 X
    (k0_part12 i arg1 h1 arg2 h2 arg3 h3 arg4 h4 arg5 h5 arg6 arg7 a (accV X v 11 (by decide)) (accI a X v w 11 (by decide)) (shapeCast S8x1024 (seg X 11 (by decide)) shapeCasts_S8x1024_S8x1024) (Scalar.muli a 64#32) 11#32)
    ⟨accV X v 15 (by decide), accI a X v w 15 (by decide), Scalar.addi (Scalar.muli a 64#32) 15#32, cmpf .ogt (wide (seg X 15 (by decide))) (accV X v 15 (by decide)), wide (seg X 15 (by decide))⟩ := by
  rw [k0_part12_eq_skeleton]; unfold k0_part12_skel
  exact .load <| .load <| .load <| .load <| .pure rfl

theorem reads_part13 : Reads c arg1 X
    (k0_part13 i arg1 h1 arg2 h2 arg3 h3 arg4 h4 arg5 h5 arg6 arg7 a (accV X v 15 (by decide)) (accI a X v w 15 (by decide)) (Scalar.addi (Scalar.muli a 64#32) 15#32) (cmpf .ogt (wide (seg X 15 (by decide))) (accV X v 15 (by decide))) (wide (seg X 15 (by decide))))
    ⟨accV X v 20 (by decide), accI a X v w 20 (by decide)⟩ := by
  rw [k0_part13_eq_skeleton]; unfold k0_part13_skel
  exact .load <| .load <| .load <| .load <| .pure rfl

theorem reads_part14 : Reads c arg1 X
    (k0_part14 i arg1 h1 arg2 h2 arg3 h3 arg4 h4 arg5 h5 arg6 arg7 a (accV X v 20 (by decide)) (accI a X v w 20 (by decide)))
    ⟨accV X v 24 (by decide), accI a X v w 24 (by decide), shapeCast S8x1024 (seg X 24 (by decide)) shapeCasts_S8x1024_S8x1024, 64#32⟩ := by
  rw [k0_part14_eq_skeleton]; unfold k0_part14_skel
  exact .load <| .load <| .load <| .load <| .load <| .pure rfl

theorem reads_part15 : Reads c arg1 X
    (k0_part15 i arg1 h1 arg2 h2 arg3 h3 arg4 h4 arg5 h5 arg6 arg7 a (accV X v 24 (by decide)) (accI a X v w 24 (by decide)) (shapeCast S8x1024 (seg X 24 (by decide)) shapeCasts_S8x1024_S8x1024) 64#32)
    ⟨accV X v 28 (by decide), accI a X v w 28 (by decide), shapeCast S8x1024 (seg X 28 (by decide)) shapeCasts_S8x1024_S8x1024, Scalar.addi (Scalar.muli a 64#32) 28#32, wide (seg X 28 (by decide))⟩ := by
  rw [k0_part15_eq_skeleton]; unfold k0_part15_skel
  exact .load <| .load <| .load <| .load <| .pure rfl

theorem reads_part16 : Reads c arg1 X
    (k0_part16 i arg1 h1 arg2 h2 arg3 h3 arg4 h4 arg5 h5 arg6 arg7 a (accV X v 28 (by decide)) (accI a X v w 28 (by decide)) (shapeCast S8x1024 (seg X 28 (by decide)) shapeCasts_S8x1024_S8x1024) (Scalar.addi (Scalar.muli a 64#32) 28#32) (wide (seg X 28 (by decide))))
    ⟨accI a X v w 32 (by decide), cmpf .ogt (wide (seg X 32 (by decide))) (accV X v 32 (by decide)), accV X v 33 (by decide), mark a 32⟩ := by
  rw [k0_part16_eq_skeleton]; unfold k0_part16_skel
  exact .load <| .load <| .load <| .load <| .pure rfl

theorem reads_part17 : Reads c arg1 X
    (k0_part17 i arg1 h1 arg2 h2 arg3 h3 arg4 h4 arg5 h5 arg6 arg7 a (accI a X v w 32 (by decide)) (cmpf .ogt (wide (seg X 32 (by decide))) (accV X v 32 (by decide))) (accV X v 33 (by decide)) (mark a 32))
    ⟨accV X v 37 (by decide), accI a X v w 37 (by decide), seg X 37 (by decide)⟩ := by
  rw [k0_part17_eq_skeleton]; unfold k0_part17_skel
  exact .load <| .load <| .load <| .load <| .load <| .pure rfl

theorem reads_part18 : Reads c arg1 X
    (k0_part18 i arg1 h1 arg2 h2 arg3 h3 arg4 h4 arg5 h5 arg6 arg7 a (accV X v 37 (by decide)) (accI a X v w 37 (by decide)) (seg X 37 (by decide)))
    ⟨accV X v 41 (by decide), accI a X v w 41 (by decide), shapeCast S8x1024 (seg X 41 (by decide)) shapeCasts_S8x1024_S8x1024, Scalar.muli a 64#32, 41#32⟩ := by
  rw [k0_part18_eq_skeleton]; unfold k0_part18_skel
  exact .load <| .load <| .load <| .load <| .pure rfl

theorem reads_part19 : Reads c arg1 X
    (k0_part19 i arg1 h1 arg2 h2 arg3 h3 arg4 h4 arg5 h5 arg6 arg7 a (accV X v 41 (by decide)) (accI a X v w 41 (by decide)) (shapeCast S8x1024 (seg X 41 (by decide)) shapeCasts_S8x1024_S8x1024) (Scalar.muli a 64#32) 41#32)
    ⟨accV X v 45 (by decide), accI a X v w 45 (by decide), Scalar.addi (Scalar.muli a 64#32) 45#32, cmpf .ogt (wide (seg X 45 (by decide))) (accV X v 45 (by decide)), wide (seg X 45 (by decide))⟩ := by
  rw [k0_part19_eq_skeleton]; unfold k0_part19_skel
  exact .load <| .load <| .load <| .load <| .pure rfl

theorem reads_part20 : Reads c arg1 X
    (k0_part20 i arg1 h1 arg2 h2 arg3 h3 arg4 h4 arg5 h5 arg6 arg7 a (accV X v 45 (by decide)) (accI a X v w 45 (by decide)) (Scalar.addi (Scalar.muli a 64#32) 45#32) (cmpf .ogt (wide (seg X 45 (by decide))) (accV X v 45 (by decide))) (wide (seg X 45 (by decide))))
    ⟨accV X v 50 (by decide), accI a X v w 50 (by decide)⟩ := by
  rw [k0_part20_eq_skeleton]; unfold k0_part20_skel
  exact .load <| .load <| .load <| .load <| .pure rfl

theorem reads_part21 : Reads c arg1 X
    (k0_part21 i arg1 h1 arg2 h2 arg3 h3 arg4 h4 arg5 h5 arg6 arg7 a (accV X v 50 (by decide)) (accI a X v w 50 (by decide)))
    ⟨accV X v 54 (by decide), accI a X v w 54 (by decide), shapeCast S8x1024 (seg X 54 (by decide)) shapeCasts_S8x1024_S8x1024, 64#32⟩ := by
  rw [k0_part21_eq_skeleton]; unfold k0_part21_skel
  exact .load <| .load <| .load <| .load <| .load <| .pure rfl

theorem reads_part22 : Reads c arg1 X
    (k0_part22 i arg1 h1 arg2 h2 arg3 h3 arg4 h4 arg5 h5 arg6 arg7 a (accV X v 54 (by decide)) (accI a X v w 54 (by decide)) (shapeCast S8x1024 (seg X 54 (by decide)) shapeCasts_S8x1024_S8x1024) 64#32)
    ⟨accV X v 58 (by decide), accI a X v w 58 (by decide), shapeCast S8x1024 (seg X 58 (by decide)) shapeCasts_S8x1024_S8x1024, Scalar.addi (Scalar.muli a 64#32) 58#32, wide (seg X 58 (by decide))⟩ := by
  rw [k0_part22_eq_skeleton]; unfold k0_part22_skel
  exact .load <| .load <| .load <| .load <| .pure rfl

theorem reads_part23 : Reads c arg1 X
    (k0_part23 i arg1 h1 arg2 h2 arg3 h3 arg4 h4 arg5 h5 arg6 arg7 a (accV X v 58 (by decide)) (accI a X v w 58 (by decide)) (shapeCast S8x1024 (seg X 58 (by decide)) shapeCasts_S8x1024_S8x1024) (Scalar.addi (Scalar.muli a 64#32) 58#32) (wide (seg X 58 (by decide))))
    ⟨accI a X v w 62 (by decide), cmpf .ogt (wide (seg X 62 (by decide))) (accV X v 62 (by decide)), accV X v 63 (by decide), mark a 62⟩ := by
  rw [k0_part23_eq_skeleton]; unfold k0_part23_skel
  exact .load <| .load <| .load <| .load <| .pure rfl

end Parts

end Cert.Exchange
-- ==== Proof.Rows.lean ====
/- The gather buffer by its rows, families over the devices by distance, and what the row of one's own costs to lend. -/
module

public import proofs.«01_k».proof.Proof.Actions
public import proofs.«01_k».proof.Proof.Steps

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families over the devices -/

theorem erase_src (c : Dev nD) : (Finset.univ : Finset (Dev nD)).erase c = Finset.univ.map ⟨src c, src_inj c⟩ := by
  ext s
  rw [Finset.mem_erase, Finset.mem_map]
  constructor
  · rintro ⟨h, -⟩
    rcases eq_or_src c s with rfl | ⟨k, rfl⟩
    · exact absurd rfl h
    · exact ⟨k, Finset.mem_univ _, rfl⟩
  · rintro ⟨k, -, rfl⟩
    exact ⟨src_ne c k, Finset.mem_univ _⟩

/-- A distance backwards is the other distance forwards. -/
theorem src_rev (c : Dev nD) (k : Fin 7) : src c (Fin.rev k) = tgt c k := by
  have hc : c.val < 8 := c.isLt
  have hk := k.isLt
  refine Fin.ext ?_
  rw [src_val, tgt_val, Fin.val_rev]
  omega

/-- A family over the devices: one's own member, and the others' by how far before one they stand. -/
theorem bigSep_src (c : Dev nD) (Φ : Dev nD → sProp 𝕄) :
    bigSep Finset.univ Φ = iprop(Φ c ∗ bigSep Finset.univ fun k : Fin 7 => Φ (src c k)) := by
  rw [bigSep_univ_at Φ c, erase_src c, bigSep_map]; rfl
/-- The same by how far after one they stand. -/
theorem bigSep_tgt (c : Dev nD) (Φ : Dev nD → sProp 𝕄) :
    bigSep Finset.univ Φ = iprop(Φ c ∗ bigSep Finset.univ fun k : Fin 7 => Φ (tgt c k)) := by
  rw [bigSep_src c Φ, bigSep_univ_equiv Fin.revPerm (fun k : Fin 7 => Φ (src c k)),
    bigSep_congr fun k _ => by rw [Fin.revPerm_apply, src_rev]]

/-! ## Rows -/

theorem mem_rowSet (r : Dev nD) (i : S8x2x1024.Idx) : i ∈ rowSet r ↔ (i 0).val = r.val := by
  unfold rowSet
  rw [Rect.mem_set_unit]
  constructor
  · intro h
    have h0 : r.val ≤ (i 0).val ∧ (i 0).val < r.val + 1 := h 0
    omega
  · intro h a
    have h1 : (i 1).val < 2 := (i 1).isLt
    have h2 : (i 2).val < 1024 := (i 2).isLt
    fin_cases a
    · show r.val ≤ (i 0).val ∧ (i 0).val < r.val + 1; omega
    · show 0 ≤ (i 1).val ∧ (i 1).val < 0 + 2; omega
    · show 0 ≤ (i 2).val ∧ (i 2).val < 0 + 1024; omega

theorem rows_univ : (Finset.univ : Finset (Dev nD)).biUnion rowSet = Finset.univ :=
  Finset.eq_univ_iff_forall.mpr fun i => Finset.mem_biUnion.mpr
    ⟨⟨(i 0).val, (i 0).isLt⟩, Finset.mem_univ _, (mem_rowSet _ i).mpr rfl⟩

/-- The whole gather buffer is its eight rows. -/
theorem gPts_rows (c : Dev nD) (q : PosShare TreeShare) (f : Vec F S8x2x1024 .f32) :
    (gPts c Finset.univ q f : sProp 𝕄) = bigSep Finset.univ fun r => gPts c (rowSet r) q f := by
  unfold gPts
  rw [← pointsTo_biUnion _ _ (fun r _ r' _ h => Finset.disjoint_left.mpr fun i hi hi' =>
      h (Fin.ext (((mem_rowSet r i).mp hi).symm.trans ((mem_rowSet r' i).mp hi')))), rows_univ]

theorem gPts_split (c : Dev nD) (S) (f : Vec F S8x2x1024 .f32) :
    gPts c S fullShare f ⊢ iprop(gPts c S (Transfers.shareDrop fullShare 7) f ∗ bigSep Finset.univ fun k : Fin 7 => gPts (F := F) c S (Transfers.shareTok fullShare 7 k) f) :=
  Transfers.pointsTo_toks_split fullShare 7
theorem gPts_join (c : Dev nD) (S) (f : Vec F S8x2x1024 .f32) :
    iprop(gPts c S (Transfers.shareDrop fullShare 7) f ∗ bigSep Finset.univ fun k : Fin 7 => gPts (F := F) c S (Transfers.shareTok fullShare 7 k) f) ⊢ gPts c S fullShare f :=
  Transfers.pointsTo_toks_join fullShare 7

/-! ## The device's own row -/

abbrev gM : Memref sig .tc .vmem S8x2x1024 .f32 := Memref.whole cc0_scratch2
abbrev vM : Memref sig .tc .vmem S8x1024 .f32 := Memref.whole cc0_scratch0
abbrev iM : Memref sig .tc .vmem S8x1024 .i32 := Memref.whole cc0_scratch1

theorem rowAccess_set (r : Dev nD) (inb) :
    ((gM : Memref sig .tc .vmem S8x2x1024 .f32).access (Rect.unit (s := S8x2x1024) ![r.val, 0, 0] S1x2x1024.size inb) : View sig .tc _ _ _).set = rowSet r :=
  View.set_slice_whole _ _

section Own

variable (g : Vec F S8x2x1024 .f32) (c : Dev nD)

/-- The row loaded, then stored: it holds the device's part of `g`. -/
theorem wp_own {α : Type} {Q : α → sProp 𝕄} (o : Fin 3 → Nat) (ho : o = ![c.val, 0, 0])
    {inb : ∀ a, o a + S1x2x1024.size a ≤ S8x2x1024.size a} {hl : gM.view.LoadsAt (Rect.unit (s := S8x2x1024) o S1x2x1024.size inb).toLoadRect}
    (w : (Rect.unit (s := S8x2x1024) o S1x2x1024.size inb).shape.Idx → Elt F .f32)
    {hx : (gM.access (Rect.unit (s := S8x2x1024) o S1x2x1024.size inb)).Stores Finset.univ} {hm}
    (hw : (gM.access (Rect.unit (s := S8x2x1024) o S1x2x1024.size inb) : View sig .tc _ _ _).read (Elt F) g = w)
    {κ : PUnit → Prog (TpuEff nD τ sig (Elt F) Λ₀ .tc) α} :
    iprop(∃ f, gPts c (rowSet c) fullShare f)
      ⊢ iprop((gPts c (rowSet c) fullShare g -∗ wp frame (wpE (defs₀ (F := F)) 𝒱₀ (c : Thread nD τ) none) Set.univ (κ ⟨⟩) Q)
          -∗ wp frame (wpE (defs₀ (F := F)) 𝒱₀ (c : Thread nD τ) none) Set.univ
              (.op (.load gM (Rect.unit (s := S8x2x1024) o S1x2x1024.size inb).toLoadRect hl) fun _ =>
                .op (.store gM (Rect.unit (s := S8x2x1024) o S1x2x1024.size inb) w Finset.univ hx hm) κ) Q) := by
  subst ho hw
  iintro ⟨%f, H⟩ Hk
  unfold gPts
  iapply (wp_load 𝒱₀ (c : Thread nD τ) none Set.univ (m := gM)
    (by have h := (rowAccess_set c inb).subset; rwa [View.set_slice] at h)) $$ H; iintro H
  iapply (wp_store 𝒱₀ (c : Thread nD τ) none Set.univ (m := gM) (r := Rect.unit (s := S8x2x1024) ![c.val, 0, 0] S1x2x1024.size inb)
    (Mk := Finset.univ) (S := rowSet c) (f := f)
    (by rw [← rowAccess_set c inb]; exact View.setOn_subset_set _ _)) $$ H; iintro H
  iapply Hk
  rw [View.write_read_eq_piecewise]
  have e : (((c : Thread nD τ).loc cc0_scratch2) ↦[rowSet c]{fullShare} (Finset.piecewise
        ((gM.access (Rect.unit (s := S8x2x1024) ![c.val, 0, 0] S1x2x1024.size inb) : View sig .tc _ _ _).setOn Finset.univ) g f) : sProp 𝕄)
      = (((c : Thread nD τ).loc cc0_scratch2) ↦[rowSet c]{fullShare} g) :=
    pointsTo_congr fun i hi => Finset.piecewise_eq_of_mem _ _ _ (by rw [View.setOn_univ, rowAccess_set c inb]; exact hi)
  iapply (Entails.of_eq e) $$ H

end Own

end Cert.Exchange
-- ==== Proof.Parts.lean ====
/- The parts of the body that talk to the other devices, and its start: each from the state the operations before it
   leave. -/
module

public import proofs.«01_k».proof.Proof.Rows

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (g : Vec F S8x2x1024 .f32) (K : Dev nD × Fin 16 → ℕ) (i : grid0.Coords) (c : Dev nD)
  (arg1 : Memref sig .tc .vmem S512x1024 .bf16) (h1 : arg1.IsWhole) (arg2 : Memref sig .tc .vmem S2x1024 .f32) (h2 : arg2.IsWhole)

/-- The device's number, as the kernel computes it. -/
def me : BitVec 32 := Scalar.remsi (Scalar.divsi (Dev.word c) 1#32) 8#32

theorem wp_part1 (v2 : BitVec 32) (hi : k0_cond1 i = 1#1) {Q : Sems sig S_ → sProp 𝕄} :
    iprop(sigSt g K c 0 ∗ (sigSt g K c 5 -∗ Q (SemArray.scalar (sig.barrier 0 rfl))))
      ⊢ wp frame (wpE (defs₀ (F := F)) 𝒱₀ (c : Thread nD τ) none) Set.univ
          (k0_part1 i arg1 h1 arg2 h2 vM (Memref.isWhole_whole _) iM (Memref.isWhole_whole _) gM (Memref.isWhole_whole _) cc0_scratch3 cc0_scratch4 c v2 hi) Q := by
  rw [k0_part1_eq_skeleton]; unfold k0_part1_skel
  simp only [semSignalWord, Prog.lift, Prog.bind_op, Prog.bind_ret, Prog.pure_eq_ret]
  iintro ⟨H, Hk⟩
  iapply (sig_step g K c 0 0 rfl _ (Fin.ext (k0_dev1_eq c))) $$ H; iintro H
  iapply (sig_step g K c 1 1 rfl _ (Fin.ext (k0_dev2_eq c))) $$ H; iintro H
  iapply (sig_step g K c 2 2 rfl _ (Fin.ext (k0_dev3_eq c))) $$ H; iintro H
  iapply (sig_step g K c 3 3 rfl _ (Fin.ext (k0_dev4_eq c))) $$ H; iintro H
  iapply (sig_step g K c 4 4 rfl _ (Fin.ext (k0_dev5_eq c))) $$ H; iintro H
  rw [wp_ret]; imodintro
  iapply Hk; iexact H

/-- The tokens the copies are paid with. -/
def toks : sProp 𝕄 :=
  bigSep Finset.univ fun k : Fin 7 => iprop(dutyTok ER (sendCell c k) 0 (0 : Fin 7) ∗ dutyTok ER (recvCell (tgt c k) c) 0 (0 : Fin 7))

/-- The seven rows the barrier hands over, by the copy each is for. -/
theorem barPays_eq : (bigSep Finset.univ fun k => barPay (F := F) c k)
    = bigSep Finset.univ fun k : Fin 7 => iprop(∃ f, gPts (F := F) (tgt c k) (rowSet c) fullShare f) := by
  rw [bigSep_univ_equiv Fin.revPerm (fun k : Fin 7 => barPay (F := F) c k)]
  exact bigSep_congr fun k _ => by unfold barPay; rw [Fin.revPerm_apply, src_rev]

/-- The own row filled, the seven rows received: what the copies start from, and the share of the row that stays. -/
theorem copies_intro : iprop(toks (F := F) c ∗ gPts c (rowSet c) fullShare g ∗ bigSep Finset.univ fun k => barPay (F := F) c k)
    ⊢ iprop(gPts c (rowSet c) (Transfers.shareDrop fullShare 7) g ∗ fam (copyA g c) (copyB (F := F) c) 0) := by
  rw [fam_zero, barPays_eq]
  unfold toks copyA sendPay
  simp only [bigSep_sep']
  iintro ⟨⟨Ht₁, Ht₂⟩, Hrow, Hrows⟩
  ihave Hrow := (gPts_split c (rowSet c) g) $$ Hrow
  icases Hrow with ⟨Hd, Hs⟩
  isplitl [Hd]; · iexact Hd
  isplitl [Ht₁]; · iexact Ht₁
  isplitl [Ht₂]; · iexact Ht₂
  isplitl [Hs]; · iexact Hs
  iexact Hrows

/-- What the device has before it fills its row: the tokens, its row, its barrier's credit and place. -/
def gate : sProp 𝕄 :=
  iprop(records g K ∗ levAts L lv ∗ toks (F := F) c ∗ (∃ f, gPts (F := F) c (rowSet c) fullShare f)
    ∗ cred (tallyAt (barCell c) () 7) ∗ atPos ER (barCell c) 0 (∅ : Finset (Fin 7)) 0 ∗ debt (F := F) c (left (oRecv c) 0))

theorem wp_part2 (v2 : BitVec 32) (v : FVec F S8x1024 .f32) (w : IVec S8x1024 32) (hi : k0_cond2 i = 1#1)
    (hg : (gM.access (Rect.unit (s := S8x2x1024) (k0_off1 c) S1x2x1024.size (k0_off1_inb i c hi)) : View sig .tc _ _ _).read (Elt F) g = k0_pay11 v2 v w)
    {Q : (Σ' (v693 : BitVec 32), BitVec 32) → sProp 𝕄} :
    iprop(gate g K c ∗ ((copySt g K c 1 ∗ semVal (barCell c) 0 ∗ gPts c (rowSet c) (Transfers.shareDrop fullShare 7) g) -∗ Q ⟨Scalar.addi v2 2#32, 8#32⟩))
      ⊢ wp frame (wpE (defs₀ (F := F)) 𝒱₀ (c : Thread nD τ) none) Set.univ
          (k0_part2 i arg1 h1 arg2 h2 vM (Memref.isWhole_whole _) iM (Memref.isWhole_whole _) gM (Memref.isWhole_whole _) cc0_scratch3 cc0_scratch4 c v2 v w hi) Q := by
  rw [k0_part2_eq_skeleton]; unfold k0_part2_skel
  simp only [semSignalWord, semWaitWord, Prog.lift, Prog.bind_op, Prog.bind_ret, Prog.pure_eq_ret]
  unfold gate
  iintro ⟨⟨#HR, #Hlev, Ht, Hrow, Hc, Ha, Ho⟩, Hk⟩
  iapply (wp_own g c _ (k0_off1_eq c) _ hg) $$ Hrow; iintro Hrow
  iapply (wp_gate g K c) $$ [Hc Ha Ho]
  · isplitr; · iexact HR
    isplitr; · iexact Hlev
    isplitl [Hc]; · iexact Hc
    isplitl [Ha] <;> iassumption
  iintro ⟨Hrows, Hz, Ho⟩
  ihave Hf := (copies_intro g c) $$ [Ht Hrow Hrows]
  · isplitl [Ht]; · iexact Ht
    isplitl [Hrow] <;> iassumption
  icases Hf with ⟨Hd, Hf⟩
  ihave H : copySt g K c 0 $$ [Hf Ho]
  · unfold copySt
    isplitr; · iexact HR
    isplitl [Hf] <;> iassumption
  iapply (copy_step g K c 0 0 rfl _ (Fin.ext (k0_dev8_eq c)) _ rfl _ (k0_off2_eq c) _ (k0_off3_eq c)) $$ H; iintro H
  rw [wp_ret]; imodintro
  iapply Hk
  isplitl [H]; · iexact H
  isplitl [Hz] <;> iassumption

theorem wp_part3 (v2 a b : BitVec 32) (hi : k0_cond2 i = 1#1) {Q : PUnit → sProp 𝕄} :
    iprop(copySt g K c 1 ∗ (copySt g K c 3 -∗ Q ⟨⟩))
      ⊢ wp frame (wpE (defs₀ (F := F)) 𝒱₀ (c : Thread nD τ) none) Set.univ
          (k0_part3 i arg1 h1 arg2 h2 vM (Memref.isWhole_whole _) iM (Memref.isWhole_whole _) gM (Memref.isWhole_whole _) cc0_scratch3 cc0_scratch4 c v2 hi a b) Q := by
  rw [k0_part3_eq_skeleton]; unfold k0_part3_skel
  simp only [semSignalWord, semWaitWord, Prog.lift, Prog.bind_op, Prog.bind_ret, Prog.pure_eq_ret]
  iintro ⟨H, Hk⟩
  iapply (copy_step g K c 1 1 rfl _ (Fin.ext (k0_dev9_eq c)) _ rfl _ (k0_off2_eq c) _ (k0_off3_eq c)) $$ H; iintro H
  iapply (copy_step g K c 2 2 rfl _ (Fin.ext (k0_dev10_eq c)) _ rfl _ (k0_off2_eq c) _ (k0_off3_eq c)) $$ H; iintro H
  rw [wp_ret]; imodintro
  iapply Hk; iexact H

theorem wp_part4 (v2 : BitVec 32) (hi : k0_cond2 i = 1#1) {Q : PUnit → sProp 𝕄} :
    iprop(copySt g K c 3 ∗ (copySt g K c 6 -∗ Q ⟨⟩))
      ⊢ wp frame (wpE (defs₀ (F := F)) 𝒱₀ (c : Thread nD τ) none) Set.univ
          (k0_part4 i arg1 h1 arg2 h2 vM (Memref.isWhole_whole _) iM (Memref.isWhole_whole _) gM (Memref.isWhole_whole _) cc0_scratch3 cc0_scratch4 c v2 hi) Q := by
  rw [k0_part4_eq_skeleton]; unfold k0_part4_skel
  simp only [semSignalWord, semWaitWord, Prog.lift, Prog.bind_op, Prog.bind_ret, Prog.pure_eq_ret]
  iintro ⟨H, Hk⟩
  iapply (copy_step g K c 3 3 rfl _ (Fin.ext (k0_dev11_eq c)) _ rfl _ (k0_off2_eq c) _ (k0_off3_eq c)) $$ H; iintro H
  iapply (copy_step g K c 4 4 rfl _ (Fin.ext (k0_dev12_eq c)) _ rfl _ (k0_off2_eq c) _ (k0_off3_eq c)) $$ H; iintro H
  iapply (copy_step g K c 5 5 rfl _ (Fin.ext (k0_dev13_eq c)) _ rfl _ (k0_off2_eq c) _ (k0_off3_eq c)) $$ H; iintro H
  rw [wp_ret]; imodintro
  iapply Hk; iexact H

/-- What the waits for the arriving copies start from beside what the copies leave. -/
def lands : sProp 𝕄 := bigSep Finset.univ fun k : Fin 7 => landA (F := F) c k
/-- The credits the copies left. -/
def sents : sProp 𝕄 := bigSep Finset.univ fun k : Fin 7 => copyB (F := F) c k

theorem copies_done : iprop(copySt g K c 7 ∗ lands (F := F) c) ⊢ iprop(landSt g K c 0 ∗ sents (F := F) c) := by
  unfold copySt landSt lands sents
  rw [fam_all, fam_zero, left_all]
  iintro ⟨⟨#HR, Hf, Ho⟩, Hl⟩
  isplitr [Hf]
  · isplitr; · iexact HR
    isplitl [Hl] <;> iassumption
  iexact Hf

theorem wp_part5 (v2 : BitVec 32) (hi : k0_cond2 i = 1#1) {Q : BitVec 32 → sProp 𝕄} :
    iprop((copySt g K c 6 ∗ lands (F := F) c) ∗ ((landSt g K c 2 ∗ sents (F := F) c) -∗ Q (Scalar.remsi (Scalar.addi (Scalar.subi v2 3#32) 8#32) 8#32)))
      ⊢ wp frame (wpE (defs₀ (F := F)) 𝒱₀ (c : Thread nD τ) none) Set.univ
          (k0_part5 i arg1 h1 arg2 h2 vM (Memref.isWhole_whole _) iM (Memref.isWhole_whole _) gM (Memref.isWhole_whole _) cc0_scratch3 cc0_scratch4 c v2 hi) Q := by
  rw [k0_part5_eq_skeleton]; unfold k0_part5_skel
  simp only [semSignalWord, semWaitWord, Prog.lift, Prog.bind_op, Prog.bind_ret, Prog.pure_eq_ret]
  iintro ⟨⟨H, Hl⟩, Hk⟩
  iapply (copy_step g K c 6 6 rfl _ (Fin.ext (k0_dev14_eq c)) _ rfl _ (k0_off2_eq c) _ (k0_off3_eq c)) $$ H; iintro H
  ihave H := (copies_done g K c) $$ [H Hl]
  · isplitl [H] <;> iassumption
  icases H with ⟨H, Hs⟩
  iapply (land_step g K c 0 0 rfl _ (k0_off4_eq c 0) _ _) $$ H; iintro H
  iapply (land_step g K c 1 1 rfl _ (k0_off4_eq c 1) _ _) $$ H; iintro H
  rw [wp_ret]; imodintro
  iapply Hk
  isplitl [H] <;> iassumption

theorem wp_part6 (v2 a : BitVec 32) (hi : k0_cond2 i = 1#1) {Q : BitVec 32 → sProp 𝕄} :
    iprop(landSt g K c 2 ∗ (landSt g K c 5 -∗ Q 6#32))
      ⊢ wp frame (wpE (defs₀ (F := F)) 𝒱₀ (c : Thread nD τ) none) Set.univ
          (k0_part6 i arg1 h1 arg2 h2 vM (Memref.isWhole_whole _) iM (Memref.isWhole_whole _) gM (Memref.isWhole_whole _) cc0_scratch3 cc0_scratch4 c v2 hi a) Q := by
  rw [k0_part6_eq_skeleton]; unfold k0_part6_skel
  simp only [semSignalWord, semWaitWord, Prog.lift, Prog.bind_op, Prog.bind_ret, Prog.pure_eq_ret]
  iintro ⟨H, Hk⟩
  iapply (land_step g K c 2 2 rfl _ (k0_off4_eq c 2) _ _) $$ H; iintro H
  iapply (land_step g K c 3 3 rfl _ (k0_off4_eq c 3) _ _) $$ H; iintro H
  iapply (land_step g K c 4 4 rfl _ (k0_off4_eq c 4) _ _) $$ H; iintro H
  rw [wp_ret]; imodintro
  iapply Hk; iexact H

/-- The places the waits for the own copies start from. -/
def sendPos : sProp 𝕄 := bigSep Finset.univ fun k : Fin 7 => atPos ER (sendCell c k) 0 (∅ : Finset (Fin 7)) 0
/-- What the arriving copies leave. -/
def landed : sProp 𝕄 := bigSep Finset.univ fun k : Fin 7 => landB g c k

theorem lands_done : iprop(landSt g K c 7 ∗ sents (F := F) c ∗ sendPos (F := F) c) ⊢ iprop(backSt g K c 0 ∗ landed g c) := by
  unfold landSt backSt sents sendPos landed copyB
  rw [fam_all, fam_zero]
  unfold backA
  simp only [bigSep_sep']
  iintro ⟨⟨#HR, Hf, Ho⟩, Hs, Ha⟩
  isplitr [Hf]
  · isplitr; · iexact HR
    isplitr [Ho]
    · isplitl [Hs] <;> iassumption
    iexact Ho
  iexact Hf

theorem wp_part7 (v2 a : BitVec 32) (hi : k0_cond2 i = 1#1) {Q : PUnit → sProp 𝕄} :
    iprop((landSt g K c 5 ∗ sents (F := F) c ∗ sendPos (F := F) c) ∗ ((backSt g K c 1 ∗ landed g c) -∗ Q ⟨⟩))
      ⊢ wp frame (wpE (defs₀ (F := F)) 𝒱₀ (c : Thread nD τ) none) Set.univ
          (k0_part7 i arg1 h1 arg2 h2 vM (Memref.isWhole_whole _) iM (Memref.isWhole_whole _) gM (Memref.isWhole_whole _) cc0_scratch3 cc0_scratch4 c v2 hi a) Q := by
  rw [k0_part7_eq_skeleton]; unfold k0_part7_skel
  simp only [semSignalWord, semWaitWord, Prog.lift, Prog.bind_op, Prog.bind_ret, Prog.pure_eq_ret]
  iintro ⟨⟨H, Hl⟩, Hk⟩
  iapply (land_step g K c 5 5 rfl _ (k0_off4_eq c 5) _ _) $$ H; iintro H
  iapply (land_step g K c 6 6 rfl _ (k0_off4_eq c 6) _ _) $$ H; iintro H
  ihave H := (lands_done g K c) $$ [H Hl]
  · isplitl [H] <;> iassumption
  icases H with ⟨H, Hs⟩
  iapply (back_step g K c 0 0 rfl _ rfl _ _) $$ H; iintro H
  rw [wp_ret]; imodintro
  iapply Hk
  isplitl [H] <;> iassumption

theorem wp_part8 (hi : k0_cond2 i = 1#1) {Q : PUnit → sProp 𝕄} :
    iprop(backSt g K c 1 ∗ (backSt g K c 5 -∗ Q ⟨⟩))
      ⊢ wp frame (wpE (defs₀ (F := F)) 𝒱₀ (c : Thread nD τ) none) Set.univ
          (k0_part8 i arg1 h1 arg2 h2 vM (Memref.isWhole_whole _) iM (Memref.isWhole_whole _) gM (Memref.isWhole_whole _) cc0_scratch3 cc0_scratch4 c hi) Q := by
  rw [k0_part8_eq_skeleton]; unfold k0_part8_skel
  simp only [semSignalWord, semWaitWord, Prog.lift, Prog.bind_op, Prog.bind_ret, Prog.pure_eq_ret]
  iintro ⟨H, Hk⟩
  iapply (back_step g K c 1 1 rfl _ rfl _ _) $$ H; iintro H
  iapply (back_step g K c 2 2 rfl _ rfl _ _) $$ H; iintro H
  iapply (back_step g K c 3 3 rfl _ rfl _ _) $$ H; iintro H
  iapply (back_step g K c 4 4 rfl _ rfl _ _) $$ H; iintro H
  rw [wp_ret]; imodintro
  iapply Hk; iexact H

/-! ## The start of the body -/

/-- The running maxima and the running group numbers, in their buffers. -/
def vPts (v : FVec F S8x1024 .f32) : sProp 𝕄 := ((c : Thread nD τ).loc cc0_scratch0) ↦{fullShare} v
def wPts (w : IVec S8x1024 32) : sProp 𝕄 := ((c : Thread nD τ).loc cc0_scratch1) ↦{fullShare} w

abbrev rW : Rect S8x1024 := Rect.unit (s := S8x1024) ![0, 0] S8x1024.size inb_S8x1024_S8x1024_0_0
theorem read_v (f : (cc0_scratch0 : Ref sig .tc).ty.Contents (Elt F)) : (vM : Memref sig .tc .vmem S8x1024 .f32).view.readAt (Elt F) rW.toLoadRect f = f :=
  Memref.readAt_unit_zero (Elt F) cc0_scratch0 zeros2 _ f
theorem read_i (f : (cc0_scratch1 : Ref sig .tc).ty.Contents (Elt F)) : (iM : Memref sig .tc .vmem S8x1024 .i32).view.readAt (Elt F) rW.toLoadRect f = f :=
  Memref.readAt_unit_zero (Elt F) cc0_scratch1 zeros2 _ f
theorem write_v (f w : (cc0_scratch0 : Ref sig .tc).ty.Contents (Elt F)) :
    ((vM : Memref sig .tc .vmem S8x1024 .f32).access rW : View sig .tc _ _ _).write (Elt F) f w Finset.univ = w :=
  Memref.write_access_unit_zero_univ (Elt F) cc0_scratch0 zeros2 _ f w
theorem write_i (f w : (cc0_scratch1 : Ref sig .tc).ty.Contents (Elt F)) :
    ((iM : Memref sig .tc .vmem S8x1024 .i32).access rW : View sig .tc _ _ _).write (Elt F) f w Finset.univ = w :=
  Memref.write_access_unit_zero_univ (Elt F) cc0_scratch1 zeros2 _ f w

abbrev Start (F : FTy → Type) := Σ' (arg0 : BitVec 32) (d0 : Dev nD) (v2 : BitVec 32) (v27 : IVec S8x1024 32) (v33 : IVec S8x1024 1) (v35 : FVec F S8x1024 .f32), IVec S8x1024 32

/-- What the start of the body returns: the device, and the scan after its first groups. -/
def started (X : Vec F S512x1024 .bf16) (v : FVec F S8x1024 .f32) (w : IVec S8x1024 32) : Start F :=
  ⟨BitVec.ofNat 32 (i 0).val, c, me c, accI (BitVec.ofNat 32 (i 0).val) X v w 2 (by decide), cmpf .ogt (wide (seg X 2 (by decide))) (accV X v 2 (by decide)),
            accV X v 3 (by decide), mark (BitVec.ofNat 32 (i 0).val) 2⟩

theorem started_eq (v : FVec F S8x1024 .f32) (w : IVec S8x1024 32) (f : arg1.view.ty.Contents (Elt F)) :
    (⟨BitVec.ofNat 32 (i 0).val, c, Scalar.remsi (Scalar.divsi (Dev.word c) 1#32) 8#32,
      k0_pay20 i v w (arg1.view.readAt (Elt F) (Rect.unit (s := S512x1024) ![0, 0] S8x1024.size inb_S512x1024_S8x1024_0_0).toLoadRect f)
        (arg1.view.readAt (Elt F) (Rect.unit (s := S512x1024) ![8, 0] S8x1024.size inb_S512x1024_S8x1024_8_0).toLoadRect f),
      k0_pay22 v (arg1.view.readAt (Elt F) (Rect.unit (s := S512x1024) ![0, 0] S8x1024.size inb_S512x1024_S8x1024_0_0).toLoadRect f)
        (arg1.view.readAt (Elt F) (Rect.unit (s := S512x1024) ![8, 0] S8x1024.size inb_S512x1024_S8x1024_8_0).toLoadRect f)
        (arg1.view.readAt (Elt F) (Rect.unit (s := S512x1024) ![16, 0] S8x1024.size inb_S512x1024_S8x1024_16_0).toLoadRect f),
      k0_pay23 v (arg1.view.readAt (Elt F) (Rect.unit (s := S512x1024) ![0, 0] S8x1024.size inb_S512x1024_S8x1024_0_0).toLoadRect f)
        (arg1.view.readAt (Elt F) (Rect.unit (s := S512x1024) ![8, 0] S8x1024.size inb_S512x1024_S8x1024_8_0).toLoadRect f)
        (arg1.view.readAt (Elt F) (Rect.unit (s := S512x1024) ![16, 0] S8x1024.size inb_S512x1024_S8x1024_16_0).toLoadRect f),
      k0_pay24 i⟩ : Start F) = started i c (arg1.view.read (Elt F) f) v w := rfl

/-- At the first point: the signals sent, the running arrays set, the first groups read. -/
theorem wp_part9_first (X : Vec F S512x1024 .bf16) (hi : k0_cond1 i = 1#1) {Q : Start F → sProp 𝕄} :
    iprop((sigSt g K c 0 ∗ (∃ v, vPts (F := F) c v) ∗ (∃ w, wPts (F := F) c w) ∗ owns (c : Thread nD τ) arg1 fullShare X)
        ∗ ((sigSt g K c 7 ∗ vPts c (k0_pay12 (F := F)) ∗ wPts (F := F) c k0_pay13 ∗ owns (c : Thread nD τ) arg1 fullShare X) -∗ Q (started i c X k0_pay12 k0_pay13)))
      ⊢ wp frame (wpE (defs₀ (F := F)) 𝒱₀ (c : Thread nD τ) none) Set.univ
          (k0_part9 i arg1 h1 arg2 h2 vM (Memref.isWhole_whole _) iM (Memref.isWhole_whole _) gM (Memref.isWhole_whole _) cc0_scratch3 cc0_scratch4) Q := by
  rw [k0_part9_eq_skeleton]; unfold k0_part9_skel
  simp only [Prog.lift, Prog.bind_op, Prog.bind_ret, wp_deviceId, dif_pos hi]
  iintro ⟨⟨H, ⟨%v₀, Hv⟩, ⟨%w₀, Hw⟩, Hx⟩, Hk⟩
  rw [wp_bind]
  iapply (wp_part1 g K i c arg1 h1 arg2 h2 _ hi)
  isplitl [H]; · iexact H
  iintro H
  simp only [semSignalWord, Prog.lift, Prog.bind_op, Prog.bind_ret, Prog.pure_eq_ret]
  iapply (sig_step g K c 5 5 rfl _ (Fin.ext (k0_dev6_eq c))) $$ H; iintro H
  iapply (sig_step g K c 6 6 rfl _ (Fin.ext (k0_dev7_eq c))) $$ H; iintro H
  unfold vPts wPts
  iapply (wp_load 𝒱₀ (c : Thread nD τ) none Set.univ (m := vM) (Finset.subset_univ _)) $$ Hv; iintro Hv
  iapply (wp_store 𝒱₀ (c : Thread nD τ) none Set.univ (m := vM) (r := rW) (Mk := Finset.univ) (Finset.subset_univ _)) $$ Hv; iintro Hv
  rw [write_v]
  iapply (wp_load 𝒱₀ (c : Thread nD τ) none Set.univ (m := iM) (Finset.subset_univ _)) $$ Hw; iintro Hw
  iapply (wp_store 𝒱₀ (c : Thread nD τ) none Set.univ (m := iM) (r := rW) (Mk := Finset.univ) (Finset.subset_univ _)) $$ Hw; iintro Hw
  rw [write_i]
  iapply (wp_load 𝒱₀ (c : Thread nD τ) none Set.univ (m := vM) (Finset.subset_univ _)) $$ Hv; iintro Hv
  rw [read_v]
  iapply (wp_load 𝒱₀ (c : Thread nD τ) none Set.univ (m := iM) (Finset.subset_univ _)) $$ Hw; iintro Hw
  rw [read_i]
  unfold owns
  icases Hx with ⟨%f, %hf, Hx⟩
  iapply (wp_load 𝒱₀ (c : Thread nD τ) none Set.univ (m := arg1) (View.setOn_subset_set _ _)) $$ Hx; iintro Hx
  iapply (wp_load 𝒱₀ (c : Thread nD τ) none Set.univ (m := arg1) (View.setOn_subset_set _ _)) $$ Hx; iintro Hx
  iapply (wp_load 𝒱₀ (c : Thread nD τ) none Set.univ (m := arg1) (View.setOn_subset_set _ _)) $$ Hx; iintro Hx
  rw [wp_ret]; imodintro
  rw [started_eq, hf]
  ihave Hq := Hk $$ [H Hv Hw Hx]
  · isplitl [H]; · iexact H
    isplitl [Hv]; · iexact Hv
    isplitl [Hw]; · iexact Hw
    iexists f; isplitr; · (ipureintro; exact hf)
    iexact Hx
  iexact Hq

/-- At a later point: the first groups read. -/
theorem wp_part9_later (X : Vec F S512x1024 .bf16) (v : FVec F S8x1024 .f32) (w : IVec S8x1024 32) (hi : k0_cond1 i ≠ 1#1) {Q : Start F → sProp 𝕄} :
    iprop((vPts c v ∗ wPts (F := F) c w ∗ owns (c : Thread nD τ) arg1 fullShare X)
        ∗ ((vPts c v ∗ wPts (F := F) c w ∗ owns (c : Thread nD τ) arg1 fullShare X) -∗ Q (started i c X v w)))
      ⊢ wp frame (wpE (defs₀ (F := F)) 𝒱₀ (c : Thread nD τ) none) Set.univ
          (k0_part9 i arg1 h1 arg2 h2 vM (Memref.isWhole_whole _) iM (Memref.isWhole_whole _) gM (Memref.isWhole_whole _) cc0_scratch3 cc0_scratch4) Q := by
  rw [k0_part9_eq_skeleton]; unfold k0_part9_skel
  simp only [Prog.lift, Prog.bind_op, Prog.bind_ret, Prog.pure_eq_ret, wp_deviceId, dif_neg hi]
  iintro ⟨⟨Hv, Hw, Hx⟩, Hk⟩
  unfold vPts wPts
  iapply (wp_load 𝒱₀ (c : Thread nD τ) none Set.univ (m := vM) (Finset.subset_univ _)) $$ Hv; iintro Hv
  rw [read_v]
  iapply (wp_load 𝒱₀ (c : Thread nD τ) none Set.univ (m := iM) (Finset.subset_univ _)) $$ Hw; iintro Hw
  rw [read_i]
  unfold owns
  icases Hx with ⟨%f, %hf, Hx⟩
  iapply (wp_load 𝒱₀ (c : Thread nD τ) none Set.univ (m := arg1) (View.setOn_subset_set _ _)) $$ Hx; iintro Hx
  iapply (wp_load 𝒱₀ (c : Thread nD τ) none Set.univ (m := arg1) (View.setOn_subset_set _ _)) $$ Hx; iintro Hx
  iapply (wp_load 𝒱₀ (c : Thread nD τ) none Set.univ (m := arg1) (View.setOn_subset_set _ _)) $$ Hx; iintro Hx
  rw [wp_ret]; imodintro
  rw [started_eq, hf]
  ihave Hq := Hk $$ [Hv Hw Hx]
  · isplitl [Hv]; · iexact Hv
    isplitl [Hw]; · iexact Hw
    iexists f; isplitr; · (ipureintro; exact hf)
    iexact Hx
  iexact Hq

end Parts

end Cert.Exchange
-- ==== Proof.Body.lean ====
/- The kernel's body at one grid point: the scan of the block, and at the last point the exchange and the result. -/
module

public import proofs.«01_k».proof.Proof.Parts
public import Idealize.ShloMosaic.Lib.Pipeline.Value

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem Reads.step {c : Dev nD} {b : Memref sig .tc .vmem S512x1024 .bf16} {X : Vec F S512x1024 .bf16} {α β : Type}
    {p : Prog (TpuEff nD τ sig (Elt F) Λ₀ .tc) α} {r : α} (h : Reads c b X p r) {k : α → Prog (TpuEff nD τ sig (Elt F) Λ₀ .tc) β} {Q : β → sProp 𝕄} :
    owns (c : Thread nD τ) b fullShare X
      ⊢ iprop((owns (c : Thread nD τ) b fullShare X -∗ wp frame (wpE (defs₀ (F := F)) 𝒱₀ (c : Thread nD τ) none) Set.univ (k r) Q)
        -∗ wp frame (wpE (defs₀ (F := F)) 𝒱₀ (c : Thread nD τ) none) Set.univ (p >>= k) Q) := by
  rw [wp_bind]
  iintro Hx Hk
  iapply (h fun a => wp frame (wpE (defs₀ (F := F)) 𝒱₀ (c : Thread nD τ) none) Set.univ (k a) Q)
  isplitl [Hx] <;> iassumption

/-! ## The result -/

abbrev oM : Memref sig .tc .vmem S2x1024 .f32 := Memref.whole cc0_stg1_0
abbrev rG0 : Rect S8x2x1024 := Rect.unit (s := S8x2x1024) ![0, 0, 0] S8x1x1024.size inb_S8x2x1024_S8x1x1024_0_0_0
abbrev rG1 : Rect S8x2x1024 := Rect.unit (s := S8x2x1024) ![0, 1, 0] S8x1x1024.size inb_S8x2x1024_S8x1x1024_0_1_0
abbrev rO0 : Rect S2x1024 := Rect.unit (s := S2x1024) ![0, 0] S1x1024.size inb_S2x1024_S1x1024_0_0
abbrev rO1 : Rect S2x1024 := Rect.unit (s := S2x1024) ![1, 0] S1x1024.size inb_S2x1024_S1x1024_1_0

/-- The devices' maxima, and their row numbers, out of the gathered parts. -/
def maxes (g : Vec F S8x2x1024 .f32) : Vec F S8x1x1024 .f32 := View.ld g rG0
def places (g : Vec F S8x2x1024 .f32) : Vec F S8x1x1024 .f32 := View.ld g rG1

abbrev oA0 : View sig .tc .vmem S1x1024 .f32 := oM.access rO0
abbrev oA1 : View sig .tc .vmem S1x1024 .f32 := oM.access rO1

/-- The two rows stored over whatever the buffer held. -/
def outOver (g : Vec F S8x2x1024 .f32) (f : Vec F S2x1024 .f32) : Vec F S2x1024 .f32 :=
  oA1.write (Elt F) (oA0.write (Elt F) f (k0_pay9 (maxes g)) Finset.univ) (k0_pay10 (maxes g) (places g)) Finset.univ
/-- The kernel's result, given the gathered parts. -/
def outOf (g : Vec F S8x2x1024 .f32) : Vec F S2x1024 .f32 := outOver g (broadcast S2x1024 (Scalar.ofBits .f32 0#32))

theorem rows_cover (i : S2x1024.Idx) : i ∈ oA0.set ∨ i ∈ oA1.set := by
  have h0 : (i 0).val < 2 := (i 0).isLt
  have h1 : (i 1).val < 1024 := (i 1).isLt
  have e0 : oA0.set = rO0.set := View.set_slice_whole _ _
  have e1 : oA1.set = rO1.set := View.set_slice_whole _ _
  rw [e0, e1, Rect.mem_set_unit, Rect.mem_set_unit]
  by_cases h : (i 0).val = 0
  · left; intro a
    fin_cases a
    · show 0 ≤ (i 0).val ∧ (i 0).val < 0 + 1; omega
    · show 0 ≤ (i 1).val ∧ (i 1).val < 0 + 1024; omega
  · right; intro a
    fin_cases a
    · show 1 ≤ (i 0).val ∧ (i 0).val < 1 + 1; omega
    · show 0 ≤ (i 1).val ∧ (i 1).val < 0 + 1024; omega

theorem write_congr {s : Shape} {e : EltTy} (v : View sig .tc .vmem s e) (f f' : v.ty.Contents (Elt F)) (w : s.Idx → Elt F e) (i : v.ty.Idx)
    (h : i ∈ v.set ∨ f i = f' i) : v.write (Elt F) f w Finset.univ i = v.write (Elt F) f' w Finset.univ i := by
  by_cases hi : i ∈ v.set
  · obtain ⟨x, -, rfl⟩ := Finset.mem_map.mp hi
    rw [View.write_emb_of_mem _ _ (Finset.mem_univ _), View.write_emb_of_mem _ _ (Finset.mem_univ _)]
  · rw [View.write_of_not_mem _ _ _ hi, View.write_of_not_mem _ _ _ hi]
    exact h.resolve_left hi

theorem outOver_eq (g : Vec F S8x2x1024 .f32) (f : Vec F S2x1024 .f32) : outOver g f = outOf g := by
  funext i
  unfold outOf outOver
  refine write_congr oA1 _ _ _ i ?_
  rcases rows_cover i with h | h
  · exact .inr (write_congr oA0 _ _ _ i (.inl h))
  · exact .inl h

/-! ## The body -/

section Body

variable (g : Vec F S8x2x1024 .f32) (K : Dev nD × Fin 16 → ℕ) (i : grid0.Coords) (c : Dev nD)
  (arg1 : Memref sig .tc .vmem S512x1024 .bf16) (h1 : arg1.IsWhole)

def oPts (f : Vec F S2x1024 .f32) : sProp 𝕄 := ((c : Thread nD τ).loc cc0_stg1_0) ↦{fullShare} f

/-- What the device carries from its signals to the exchange. -/
def ready : sProp 𝕄 :=
  iprop(gate g K c ∗ lands (F := F) c ∗ sendPos (F := F) c ∗ atPos ER (recvCell c c) 0 (∅ : Finset (Fin 7)) 0)

/-- What the exchange leaves: the gathered parts, every counter at zero, nothing owed. -/
def finished : sProp 𝕄 :=
  iprop(gPts c Finset.univ fullShare g ∗ semVal (barCell c) 0 ∗ (bigSep Finset.univ fun k : Fin 7 => semVal (sendCell c k) 0)
    ∗ (bigSep Finset.univ fun s : Dev nD => semVal (recvCell c s) 0) ∗ debt (F := F) c 0)

theorem finish : iprop((backSt g K c 7 ∗ landed g c) ∗ semVal (barCell c) 0 ∗ gPts c (rowSet c) (Transfers.shareDrop fullShare 7) g ∗ atPos ER (recvCell c c) 0 (∅ : Finset (Fin 7)) 0)
    ⊢ (|={Set.univ}=> finished g c : sProp 𝕄) := by
  unfold backSt landed finished
  rw [fam_all, gPts_rows, bigSep_src c (fun r => gPts c (rowSet r) fullShare g), bigSep_src c (fun s : Dev nD => (semVal (recvCell c s) 0 : sProp 𝕄))]
  unfold backB landB sendPay recvPay
  simp only [bigSep_sep']
  iintro ⟨⟨⟨#HR, ⟨Hsh, Hzs⟩, Ho⟩, Hrows, Hzr⟩, Hzb, Hd, Ha⟩
  imod (close_self g K c) $$ [Ha] with Hz
  · isplitr; · iexact HR
    iexact Ha
  imodintro
  ihave Hrow := (gPts_join c (rowSet c) g) $$ [Hd Hsh]
  · isplitl [Hd] <;> iassumption
  isplitl [Hrow Hrows]
  · isplitl [Hrow] <;> iassumption
  isplitl [Hzb]; · iexact Hzb
  isplitl [Hzs]; · iexact Hzs
  isplitr [Ho]
  · isplitl [Hz] <;> iassumption
  iexact Ho

section Last

variable (a : BitVec 32) (X : Vec F S512x1024 .bf16) (v : FVec F S8x1024 .f32) (w : IVec S8x1024 32)

abbrev rL : Rect S512x1024 := Rect.unit (s := S512x1024) ![504, 0] S8x1024.size inb_S512x1024_S8x1024_504_0

theorem last_v : k0_pay3 (accV X v 63 (by decide)) (View.ld X rL) = accV X v 64 (Nat.le_refl _) := rfl
theorem last_i : k0_pay4 a (accI a X v w 62 (by decide)) (cmpf .ogt (wide (seg X 62 (by decide))) (accV X v 62 (by decide))) (accV X v 63 (by decide)) (mark a 62) (View.ld X rL)
    = accI a X v w 64 (Nat.le_refl _) := rfl
theorem stored_v : k0_pay5 (accV X v 63 (by decide)) (View.ld X rL) = accV X v 64 (Nat.le_refl _) := shapeCast_self _ _
theorem stored_i : k0_pay6 a (accI a X v w 62 (by decide)) (cmpf .ogt (wide (seg X 62 (by decide))) (accV X v 62 (by decide))) (accV X v 63 (by decide)) (mark a 62) (View.ld X rL)
    = accI a X v w 64 (Nat.le_refl _) := shapeCast_self _ _

end Last

/-- The state after the point. -/
def after (X : Vec F S512x1024 .bf16) (v : FVec F S8x1024 .f32) (w : IVec S8x1024 32) (f : Vec F S2x1024 .f32) : sProp 𝕄 :=
  if k0_cond2 i = 1#1 then
    iprop(finished g c ∗ (∃ v, vPts (F := F) c v) ∗ (∃ w, wPts (F := F) c w) ∗ oPts c (outOf g))
  else
    iprop(ready g K c ∗ vPts c (accV X v 64 (Nat.le_refl _)) ∗ wPts (F := F) c (accI (BitVec.ofNat 32 (i 0).val) X v w 64 (Nat.le_refl _)) ∗ oPts c f)

theorem wp_body (X : Vec F S512x1024 .bf16) (v : FVec F S8x1024 .f32) (w : IVec S8x1024 32) (f : Vec F S2x1024 .f32) (R : sProp 𝕄)
    (h9 : ∀ Q : Start F → sProp 𝕄, iprop(R ∗ ((ready g K c ∗ vPts c v ∗ wPts (F := F) c w ∗ owns (c : Thread nD τ) arg1 fullShare X) -∗ Q (started i c X v w)))
      ⊢ wp frame (wpE (defs₀ (F := F)) 𝒱₀ (c : Thread nD τ) none) Set.univ
          (k0_part9 i arg1 h1 oM (Memref.isWhole_whole _) vM (Memref.isWhole_whole _) iM (Memref.isWhole_whole _) gM (Memref.isWhole_whole _) cc0_scratch3 cc0_scratch4) Q)
    (hg : ∀ hi : k0_cond2 i = 1#1, (gM.access (Rect.unit (s := S8x2x1024) (k0_off1 c) S1x2x1024.size (k0_off1_inb i c hi)) : View sig .tc _ _ _).read (Elt F) g
      = k0_pay11 (me c) (accV X v 64 (Nat.le_refl _)) (accI (BitVec.ofNat 32 (i 0).val) X v w 64 (Nat.le_refl _)))
    {Q : PUnit → sProp 𝕄} :
    iprop(R ∗ oPts c f ∗ ((owns (c : Thread nD τ) arg1 fullShare X ∗ after g K i c X v w f) -∗ Q ⟨⟩))
      ⊢ wp frame (wpE (defs₀ (F := F)) 𝒱₀ (c : Thread nD τ) none) Set.univ
          (cc0_body i arg1 h1 oM (Memref.isWhole_whole _) vM (Memref.isWhole_whole _) iM (Memref.isWhole_whole _) gM (Memref.isWhole_whole _) cc0_scratch3 cc0_scratch4) Q := by
  rw [cc0_body_eq_skeleton]; unfold cc0_body_skel
  rw [wp_bind]
  iintro ⟨HR, Hout, Hk⟩
  iapply (h9 _)
  isplitl [HR]; · iexact HR
  iintro ⟨Hst, Hv, Hw, Hx⟩
  unfold started
  iapply (Reads.step (reads_part10 i c arg1 h1 oM _ vM _ iM _ gM _ cc0_scratch3 cc0_scratch4 (BitVec.ofNat 32 (i 0).val) X v w)) $$ Hx; iintro Hx
  iapply (Reads.step (reads_part11 i c arg1 h1 oM _ vM _ iM _ gM _ cc0_scratch3 cc0_scratch4 (BitVec.ofNat 32 (i 0).val) X v w)) $$ Hx; iintro Hx
  iapply (Reads.step (reads_part12 i c arg1 h1 oM _ vM _ iM _ gM _ cc0_scratch3 cc0_scratch4 (BitVec.ofNat 32 (i 0).val) X v w)) $$ Hx; iintro Hx
  iapply (Reads.step (reads_part13 i c arg1 h1 oM _ vM _ iM _ gM _ cc0_scratch3 cc0_scratch4 (BitVec.ofNat 32 (i 0).val) X v w)) $$ Hx; iintro Hx
  iapply (Reads.step (reads_part14 i c arg1 h1 oM _ vM _ iM _ gM _ cc0_scratch3 cc0_scratch4 (BitVec.ofNat 32 (i 0).val) X v w)) $$ Hx; iintro Hx
  iapply (Reads.step (reads_part15 i c arg1 h1 oM _ vM _ iM _ gM _ cc0_scratch3 cc0_scratch4 (BitVec.ofNat 32 (i 0).val) X v w)) $$ Hx; iintro Hx
  iapply (Reads.step (reads_part16 i c arg1 h1 oM _ vM _ iM _ gM _ cc0_scratch3 cc0_scratch4 (BitVec.ofNat 32 (i 0).val) X v w)) $$ Hx; iintro Hx
  iapply (Reads.step (reads_part17 i c arg1 h1 oM _ vM _ iM _ gM _ cc0_scratch3 cc0_scratch4 (BitVec.ofNat 32 (i 0).val) X v w)) $$ Hx; iintro Hx
  iapply (Reads.step (reads_part18 i c arg1 h1 oM _ vM _ iM _ gM _ cc0_scratch3 cc0_scratch4 (BitVec.ofNat 32 (i 0).val) X v w)) $$ Hx; iintro Hx
  iapply (Reads.step (reads_part19 i c arg1 h1 oM _ vM _ iM _ gM _ cc0_scratch3 cc0_scratch4 (BitVec.ofNat 32 (i 0).val) X v w)) $$ Hx; iintro Hx
  iapply (Reads.step (reads_part20 i c arg1 h1 oM _ vM _ iM _ gM _ cc0_scratch3 cc0_scratch4 (BitVec.ofNat 32 (i 0).val) X v w)) $$ Hx; iintro Hx
  iapply (Reads.step (reads_part21 i c arg1 h1 oM _ vM _ iM _ gM _ cc0_scratch3 cc0_scratch4 (BitVec.ofNat 32 (i 0).val) X v w)) $$ Hx; iintro Hx
  iapply (Reads.step (reads_part22 i c arg1 h1 oM _ vM _ iM _ gM _ cc0_scratch3 cc0_scratch4 (BitVec.ofNat 32 (i 0).val) X v w)) $$ Hx; iintro Hx
  iapply (Reads.step (reads_part23 i c arg1 h1 oM _ vM _ iM _ gM _ cc0_scratch3 cc0_scratch4 (BitVec.ofNat 32 (i 0).val) X v w)) $$ Hx; iintro Hx
  simp only [Prog.lift, Prog.bind_op, Prog.bind_ret]
  unfold owns vPts wPts
  icases Hx with ⟨%f₁, %hf, Hx⟩
  iapply (wp_load 𝒱₀ (c : Thread nD τ) none Set.univ (m := arg1) (View.setOn_subset_set _ _)) $$ Hx; iintro Hx
  rw [View.readAt_eq_ld, hf]
  iapply (wp_load 𝒱₀ (c : Thread nD τ) none Set.univ (m := vM) (Finset.subset_univ _)) $$ Hv; iintro Hv
  iapply (wp_store 𝒱₀ (c : Thread nD τ) none Set.univ (m := vM) (r := rW) (Mk := Finset.univ) (Finset.subset_univ _)) $$ Hv; iintro Hv
  rw [write_v]
  iapply (wp_load 𝒱₀ (c : Thread nD τ) none Set.univ (m := iM) (Finset.subset_univ _)) $$ Hw; iintro Hw
  iapply (wp_store 𝒱₀ (c : Thread nD τ) none Set.univ (m := iM) (r := rW) (Mk := Finset.univ) (Finset.subset_univ _)) $$ Hw; iintro Hw
  rw [write_i]
  rw [stored_v, stored_i]
  simp only [last_v, last_i]
  unfold after vPts wPts
  by_cases hi : k0_cond2 i = 1#1
  · simp only [dif_pos hi, if_pos hi]
    unfold ready
    icases Hst with ⟨Hgate, Hl, Hp, Ha⟩
    rw [wp_bind]
    iapply (wp_part2 g K i c arg1 h1 oM (Memref.isWhole_whole _) _ _ _ hi (hg hi))
    isplitl [Hgate]; · iexact Hgate
    iintro ⟨H, Hzb, Hd⟩
    rw [wp_bind]
    iapply (wp_part3 g K i c arg1 h1 oM (Memref.isWhole_whole _) _ _ _ hi)
    isplitl [H]; · iexact H
    iintro H
    rw [wp_bind]
    iapply (wp_part4 g K i c arg1 h1 oM (Memref.isWhole_whole _) _ hi)
    isplitl [H]; · iexact H
    iintro H
    rw [wp_bind]
    iapply (wp_part5 g K i c arg1 h1 oM (Memref.isWhole_whole _) _ hi)
    isplitl [H Hl]
    · isplitl [H] <;> iassumption
    iintro ⟨H, Hs⟩
    rw [wp_bind]
    iapply (wp_part6 g K i c arg1 h1 oM (Memref.isWhole_whole _) _ _ hi)
    isplitl [H]; · iexact H
    iintro H
    rw [wp_bind]
    iapply (wp_part7 g K i c arg1 h1 oM (Memref.isWhole_whole _) _ _ hi)
    isplitl [H Hs Hp]
    · isplitl [H]; · iexact H
      isplitl [Hs] <;> iassumption
    iintro ⟨H, Hl⟩
    rw [wp_bind]
    iapply (wp_part8 g K i c arg1 h1 oM (Memref.isWhole_whole _) hi)
    isplitl [H]; · iexact H
    iintro H
    simp only [Prog.bind_op, Prog.bind_ret, Prog.pure_eq_ret]
    iapply (back_step g K c 5 5 rfl _ rfl _ _) $$ H; iintro H
    iapply (back_step g K c 6 6 rfl _ rfl _ _) $$ H; iintro H
    imod (finish g K c) $$ [H Hl Hzb Hd Ha] with Hfin
    · isplitl [H Hl]
      · isplitl [H] <;> iassumption
      isplitl [Hzb]; · iexact Hzb
      isplitl [Hd] <;> iassumption
    unfold finished gPts oPts
    icases Hfin with ⟨Hg, Hfin⟩
    iapply (wp_load 𝒱₀ (c : Thread nD τ) none Set.univ (m := gM) (Finset.subset_univ _)) $$ Hg; iintro Hg
    iapply (wp_load 𝒱₀ (c : Thread nD τ) none Set.univ (m := gM) (Finset.subset_univ _)) $$ Hg; iintro Hg
    iapply (wp_load 𝒱₀ (c : Thread nD τ) none Set.univ (m := oM) (Finset.subset_univ _)) $$ Hout; iintro Hout
    iapply (wp_store 𝒱₀ (c : Thread nD τ) none Set.univ (m := oM) (r := rO0) (Mk := Finset.univ) (Finset.subset_univ _)) $$ Hout; iintro Hout
    iapply (wp_load 𝒱₀ (c : Thread nD τ) none Set.univ (m := oM) (Finset.subset_univ _)) $$ Hout; iintro Hout
    iapply (wp_store 𝒱₀ (c : Thread nD τ) none Set.univ (m := oM) (r := rO1) (Mk := Finset.univ) (Finset.subset_univ _)) $$ Hout; iintro Hout
    rw [wp_ret]; imodintro
    iapply Hk
    isplitl [Hx]
    · iexists f₁; isplitr; · (ipureintro; exact hf)
      iexact Hx
    isplitl [Hg Hfin]
    · isplitl [Hg] <;> iassumption
    isplitl [Hv]; · iexists _; iexact Hv
    isplitl [Hw]; · iexists _; iexact Hw
    rw [← outOver_eq g f]
    iexact Hout
  · simp only [dif_neg hi, if_neg hi, Prog.pure_eq_ret, Prog.bind_ret]
    rw [wp_ret]; imodintro
    iapply Hk
    isplitl [Hx]
    · iexists f₁; isplitr; · (ipureintro; exact hf)
      iexact Hx
    isplitl [Hst]; · iexact Hst
    isplitl [Hv]; · iexact Hv
    isplitl [Hw] <;> iassumption

end Body

end Cert.Exchange
-- ==== Proof.Points.lean ====
/- The grid's eight points: what each finds and leaves, and that the body takes the one to the other. -/
module

public import proofs.«01_k».proof.Proof.Body
public import proofs.«01_k».proof.Proof.Gen.KernelIdeal.Frame

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The values -/

/-- The point numbered `n`. -/
def pt (n : ℕ) : Fin cfg0.N := ⟨n % 8, Nat.lt_of_lt_of_eq (Nat.mod_lt _ (by decide)) N_0.symm⟩
theorem pt_val (t : Fin cfg0.N) : pt t.val = t :=
  Fin.ext (Nat.mod_eq_of_lt (Nat.lt_of_lt_of_eq t.isLt N_0))

/-- Block `n` of device `c`'s part of the argument. -/
def blk (c : Dev nD) (n : ℕ) : Vec F S512x1024 .bf16 := iblk m c 0 (pt n)

/-- The running maxima and their group numbers after `n` points. -/
def scan (c : Dev nD) : ℕ → FVec F S8x1024 .f32 × IVec S8x1024 32
  | 0 => (k0_pay12, k0_pay13)
  | n + 1 => (accV (blk m c n) (scan c n).1 64 (Nat.le_refl _), accI (BitVec.ofNat 32 n) (blk m c n) (scan c n).1 (scan c n).2 64 (Nat.le_refl _))

/-- An element's place within its row of the gather buffer. -/
def inRow (j : S8x2x1024.Idx) : S1x2x1024.Idx := fun a => match a with
  | ⟨0, _⟩ => (0 : Fin 1)
  | ⟨1, _⟩ => ((j 1 : Fin 2) : Fin 2)
  | ⟨2, _⟩ => ((j 2 : Fin 1024) : Fin 1024)

/-- The eight devices' parts: row `d` is what device `d` finds in its own rows. -/
def gath : Vec F S8x2x1024 .f32 := fun j =>
  k0_pay11 (me ⟨(j 0).val, (j 0).isLt⟩) (scan m ⟨(j 0).val, (j 0).isLt⟩ 8).1 (scan m ⟨(j 0).val, (j 0).isLt⟩ 8).2 (inRow j)

theorem gath_row (c : Dev nD) (o : Fin 3 → Nat) (ho : o = ![c.val, 0, 0]) (inb : ∀ a, o a + S1x2x1024.size a ≤ S8x2x1024.size a) :
    (gM.access (Rect.unit (s := S8x2x1024) o S1x2x1024.size inb) : View sig .tc _ _ _).read (Elt F) (gath m)
      = k0_pay11 (me c) (scan m c 8).1 (scan m c 8).2 := by
  subst ho
  funext x
  have h0 : (x 0).val < 1 := (x 0).isLt
  show gath m ((Rect.unit (s := S8x2x1024) ![c.val, 0, 0] S1x2x1024.size inb).emb x) = _
  have hd : (⟨((Rect.unit (s := S8x2x1024) ![c.val, 0, 0] S1x2x1024.size inb).emb x 0).val, Fin.isLt _⟩ : Dev nD) = c :=
    Fin.ext (by show c.val + 1 * (x 0).val = c.val; omega)
  have hx : inRow ((Rect.unit (s := S8x2x1024) ![c.val, 0, 0] S1x2x1024.size inb).emb x) = x := by
    funext a; fin_cases a
    · exact Fin.ext (by show 0 = (x 0).val; omega)
    · exact Fin.ext (by show 0 + 1 * (x 1).val = (x 1).val; omega)
    · exact Fin.ext (by show 0 + 1 * (x 2).val = (x 2).val; omega)
  unfold gath
  rw [hx, hd]

theorem coord_val (t : Fin cfg0.N) : (grid0.coords t 0).val = t.val := by
  have : ∀ t : Fin grid0.N, (grid0.coords t 0).val = t.val := by decide
  exact this t
theorem first_iff (t : Fin cfg0.N) : k0_cond1 (grid0.coords t) = 1#1 ↔ t.val = 0 := by
  have : ∀ t : Fin grid0.N, k0_cond1 (grid0.coords t) = 1#1 ↔ t.val = 0 := by decide
  exact this t
theorem last_iff (t : Fin cfg0.N) : k0_cond2 (grid0.coords t) = 1#1 ↔ t.val = 7 := by
  have : ∀ t : Fin grid0.N, k0_cond2 (grid0.coords t) = 1#1 ↔ t.val = 7 := by decide
  exact this t

theorem bodyAt_eq (t : Fin cfg0.N) : (bodyAt0 t : Prog (TpuEff nD τ sig (Elt F) Λ₀ .tc) PUnit)
    = cc0_body (grid0.coords t) (win0_0.stage (cfg0.slots t 0)) (hstage0_0 ((cfg0.slots t 0).cast nbuf0_0)) oM (Memref.isWhole_whole _)
        vM (Memref.isWhole_whole _) iM (Memref.isWhole_whole _) gM (Memref.isWhole_whole _) cc0_scratch3 cc0_scratch4 := by
  obtain ⟨s, hs⟩ : ∃ s : Fin 1, (cfg0.slots t 1).cast nbuf0_1 = s := ⟨_, rfl⟩
  have h0 : win0_1.stage (cfg0.slots t 1) = stage0_1 s := by rw [← hs]; rfl
  obtain rfl : s = 0 := Subsingleton.elim _ _
  unfold bodyAt0
  congr 1

/-! ## What a device holds between the points -/

section Hold

variable (g : Vec F S8x2x1024 .f32) (K : Dev nD × Fin 16 → ℕ) (c : Dev nD)

/-- What the launch gives device `c` for the exchange, the records apart. -/
def dealt : sProp 𝕄 :=
  iprop((bigSep Finset.univ fun k : Fin 7 => dutyTok ER (barCell (tgt c k)) 0 k) ∗ toks (F := F) c ∗ atPos ER (barCell c) 0 (∅ : Finset (Fin 7)) 0
    ∗ sendPos (F := F) c ∗ bigSep Finset.univ fun s : Dev nD => atPos ER (recvCell c s) 0 (∅ : Finset (Fin 7)) 0)
/-- The units that will be paid to device `c`. -/
def dues : sProp 𝕄 :=
  iprop(cred (tallyAt (barCell c) () 7) ∗ bigSep Finset.univ fun k : Fin 7 => cred (tallyAt (recvCell c (src c k)) () N))

/-- What the device starts from. -/
def start : sProp 𝕄 := iprop((∃ K, records g K ∗ dealt (F := F) c) ∗ dues (F := F) c ∗ levAts L lv)
/-- Its three scratch buffers, whatever they hold. -/
def scratch : sProp 𝕄 := iprop((∃ v, vPts (F := F) c v) ∗ (∃ w, wPts (F := F) c w) ∗ ∃ f, gPts (F := F) c Finset.univ fullShare f)

/-- `ready`, what is owed apart. -/
def held : sProp 𝕄 :=
  iprop(records g K ∗ levAts L lv ∗ toks (F := F) c ∗ (∃ f, gPts (F := F) c (rowSet c) fullShare f)
    ∗ cred (tallyAt (barCell c) () 7) ∗ atPos ER (barCell c) 0 (∅ : Finset (Fin 7)) 0
    ∗ lands (F := F) c ∗ sendPos (F := F) c ∗ atPos ER (recvCell c c) 0 (∅ : Finset (Fin 7)) 0)

theorem ready_of : iprop(held g K c ∗ debt (F := F) c (left (oRecv c) 0)) ⊢ ready g K c := by
  unfold held ready gate
  iintro ⟨⟨#H1, #H2, H3, H4, H5, H6, H7, H8, H9⟩, Ho⟩
  isplitl [H3 H4 H5 H6 Ho]
  · isplitr; · iexact H1
    isplitr; · iexact H2
    isplitl [H3]; · iexact H3
    isplitl [H4]; · iexact H4
    isplitl [H5]; · iexact H5
    isplitl [H6] <;> iassumption
  isplitl [H7]; · iexact H7
  isplitl [H8] <;> iassumption
theorem of_ready : ready g K c ⊢ iprop(held g K c ∗ debt (F := F) c (left (oRecv c) 0)) := by
  unfold held ready gate
  iintro ⟨⟨#H1, #H2, H3, H4, H5, H6, Ho⟩, H7, H8, H9⟩
  isplitr [Ho]
  · isplitr; · iexact H1
    isplitr; · iexact H2
    isplitl [H3]; · iexact H3
    isplitl [H4]; · iexact H4
    isplitl [H5]; · iexact H5
    isplitl [H6]; · iexact H6
    isplitl [H7]; · iexact H7
    isplitl [H8] <;> iassumption
  iexact Ho

/-- The gather buffer as the device's own row and the seven others'. -/
theorem rows_out (f : Vec F S8x2x1024 .f32) : gPts c Finset.univ fullShare f
    ⊢ iprop(gPts c (rowSet c) fullShare f ∗ bigSep Finset.univ fun k : Fin 7 => gPts c (rowSet (tgt c k)) fullShare f) :=
  Entails.of_eq ((gPts_rows c fullShare f).trans (bigSep_tgt c fun r => gPts c (rowSet r) fullShare f))

theorem row_some (r : Dev nD) (f : Vec F S8x2x1024 .f32) : gPts c (rowSet r) fullShare f ⊢ iprop(∃ f, gPts (F := F) c (rowSet r) fullShare f) := by
  iintro H; iexists f; iexact H
theorem rows_some (f : Vec F S8x2x1024 .f32) : (bigSep Finset.univ fun k : Fin 7 => gPts c (rowSet (tgt c k)) fullShare f)
    ⊢ bigSep Finset.univ fun k : Fin 7 => iprop(∃ f, gPts (F := F) c (rowSet (tgt c k)) fullShare f) :=
  bigSep_mono fun k _ => row_some c (tgt c k) f

/-- The gather buffer's rows handed out with the signals; the rest waits for the copies. -/
theorem signals_intro : iprop(records g K ∗ dealt (F := F) c ∗ dues (F := F) c ∗ levAts L lv ∗ (∃ f, gPts (F := F) c Finset.univ fullShare f) ∗ debt (F := F) c (O₀ c))
    ⊢ iprop(sigSt g K c 0 ∗ (sigSt g K c 7 -∗ ready g K c)) := by
  unfold dealt dues sigSt
  rw [fam_zero]
  unfold sigA
  rw [bigSep_sep', bigSep_src c (fun s : Dev nD => (atPos ER (recvCell c s) 0 (∅ : Finset (Fin 7)) 0 : sProp 𝕄))]
  iintro ⟨#HR, ⟨Ht, Htk, Hb, Hs, Hself, Hpos⟩, ⟨Hc, Hcr⟩, #Hlev, ⟨%f, Hg⟩, Ho⟩
  ihave Hg := (rows_out c f) $$ Hg
  icases Hg with ⟨Hrow, Hrows⟩
  isplitl [Ht Hrows Ho]
  · isplitr; · iexact HR
    isplitl [Ht Hrows]
    · isplitl [Ht]; · iexact Ht
      iapply (rows_some c f) $$ Hrows
    unfold O₀; iexact Ho
  iintro ⟨-, -, Ho⟩
  rw [left_all, add_zero]
  iapply (ready_of g K c)
  unfold held
  isplitr [Ho]
  · isplitr; · iexact HR
    isplitr; · iexact Hlev
    isplitl [Htk]; · iexact Htk
    isplitl [Hrow]; · iexists f; iexact Hrow
    isplitl [Hc]; · iexact Hc
    isplitl [Hb]; · iexact Hb
    isplitl [Hcr Hpos]
    · unfold lands landA; rw [bigSep_sep']; isplitl [Hcr] <;> iassumption
    isplitl [Hs]; · iexact Hs
    iexact Hself
  iexact Ho

end Hold

/-- What the kernel leaves: every counter at zero, the scratch buffers. -/
def ending (c : Dev nD) : sProp 𝕄 :=
  iprop((semVal (barCell c) 0 ∗ (bigSep Finset.univ fun k : Fin 7 => semVal (sendCell c k) 0) ∗ (bigSep Finset.univ fun s : Dev nD => semVal (recvCell c s) 0))
    ∗ scratch (F := F) c)

/-- What the device holds before point `n`. -/
def phi (c : Dev nD) : ℕ → sProp 𝕄
  | 0 => iprop(start (gath m) c ∗ scratch (F := F) c)
  | n + 1 => if n = 7 then ending (F := F) c else iprop((∃ K, held (gath m) K c) ∗ vPts c (scan m c (n + 1)).1 ∗ wPts (F := F) c (scan m c (n + 1)).2)
/-- What it owes there. -/
def owing (c : Dev nD) : ℕ → CellTallies nD τ sig Unit
  | 0 => O₀ c
  | n + 1 => if n = 7 then 0 else left (oRecv c) 0

theorem phi_last (c : Dev nD) (n : ℕ) (h : n = 7) : phi m c (n + 1) = ending (F := F) c := if_pos h
theorem phi_next (c : Dev nD) (n : ℕ) (h : n ≠ 7) :
    phi m c (n + 1) = iprop((∃ K, held (gath m) K c) ∗ vPts c (scan m c (n + 1)).1 ∗ wPts (F := F) c (scan m c (n + 1)).2) := if_neg h
theorem owing_last (c : Dev nD) (n : ℕ) (h : n = 7) : owing c (n + 1) = 0 := if_pos h
theorem owing_next (c : Dev nD) (n : ℕ) (h : n ≠ 7) : owing c (n + 1) = left (oRecv c) 0 := if_neg h

section Step

variable (c : Dev nD) (t : Fin cfg0.N)

/-- The staged block, as the body finds it. -/
def xPts : sProp 𝕄 := owns (c : Thread nD τ) (win0_0.stage (cfg0.slots t 0)) fullShare (blk m c t.val)
/-- What the result's buffer holds after point `t`, if it held `f` before. -/
def outAfter (f : Vec F S2x1024 .f32) : Vec F S2x1024 .f32 := if t.val = 7 then outOf (gath m) else f

theorem own_part (hi : k0_cond2 (grid0.coords t) = 1#1) :
    (gM.access (Rect.unit (s := S8x2x1024) (k0_off1 c) S1x2x1024.size (k0_off1_inb (grid0.coords t) c hi)) : View sig .tc _ _ _).read (Elt F) (gath m)
      = k0_pay11 (me c) (accV (blk m c t.val) (scan m c t.val).1 64 (Nat.le_refl _))
          (accI (BitVec.ofNat 32 (grid0.coords t 0).val) (blk m c t.val) (scan m c t.val).1 (scan m c t.val).2 64 (Nat.le_refl _)) := by
  rw [coord_val, gath_row m c _ (k0_off1_eq c)]
  show k0_pay11 (me c) (scan m c 8).1 (scan m c 8).2 = k0_pay11 (me c) (scan m c (t.val + 1)).1 (scan m c (t.val + 1)).2
  rw [(last_iff t).mp hi]

theorem after_out (K : Dev nD × Fin 16 → ℕ) (f : Vec F S2x1024 .f32) :
    after (gath m) K (grid0.coords t) c (blk m c t.val) (scan m c t.val).1 (scan m c t.val).2 f
      ⊢ iprop(phi m c (t.val + 1) ∗ debt (F := F) c (owing c (t.val + 1)) ∗ oPts c (outAfter m t f)) := by
  unfold after outAfter
  by_cases h : t.val = 7
  · rw [if_pos ((last_iff t).mpr h), if_pos h, phi_last m c _ h, owing_last c _ h]
    unfold finished ending scratch
    iintro ⟨⟨Hg, Hzb, Hzs, Hzr, Ho⟩, Hv, Hw, Hout⟩
    isplitr [Ho Hout]
    · isplitl [Hzb Hzs Hzr]
      · isplitl [Hzb]; · iexact Hzb
        isplitl [Hzs] <;> iassumption
      isplitl [Hv]; · iexact Hv
      isplitl [Hw]; · iexact Hw
      iexists _; iexact Hg
    isplitl [Ho] <;> iassumption
  · rw [if_neg fun e => h ((last_iff t).mp e), if_neg h, phi_next m c _ h, owing_next c _ h, coord_val]
    iintro ⟨Hr, Hv, Hw, Hout⟩
    ihave Hr := (of_ready (gath m) K c) $$ Hr
    icases Hr with ⟨Hh, Ho⟩
    isplitr [Ho Hout]
    · isplitl [Hh]; · iexists K; iexact Hh
      isplitl [Hv]; · iexact Hv
      iexact Hw
    isplitl [Ho] <;> iassumption

theorem wp_point (f : Vec F S2x1024 .f32) :
    iprop(phi m c t.val ∗ debt (F := F) c (owing c t.val) ∗ xPts m c t ∗ oPts c f)
      ⊢ wp frame (wpE (defs₀ (F := F)) 𝒱₀ (c : Thread nD τ) none) Set.univ (bodyAt0 t)
          fun _ => iprop(phi m c (t.val + 1) ∗ debt (F := F) c (owing c (t.val + 1)) ∗ xPts m c t ∗ oPts c (outAfter m t f)) := by
  rw [bodyAt_eq]
  by_cases h : t.val = 0
  · have hs : scan m c t.val = (k0_pay12, k0_pay13) := by rw [h]; rfl
    rw [show phi m c t.val = iprop(start (gath m) c ∗ scratch (F := F) c) from by rw [h]; rfl, show owing c t.val = O₀ c from by rw [h]; rfl]
    unfold start scratch xPts
    iintro ⟨⟨⟨⟨%K, #HR, Hd⟩, Hdu, #Hlev⟩, Hv, Hw, Hg⟩, Ho, Hx, Hout⟩
    iapply (wp_body (gath m) K (grid0.coords t) c (win0_0.stage (cfg0.slots t 0)) _ (blk m c t.val) (scan m c t.val).1 (scan m c t.val).2 f
      iprop((sigSt (gath m) K c 0 ∗ (∃ v, vPts (F := F) c v) ∗ (∃ w, wPts (F := F) c w) ∗ xPts m c t) ∗ (sigSt (gath m) K c 7 -∗ ready (gath m) K c))
      (fun Q => by
        rw [hs]
        unfold xPts
        iintro ⟨⟨Hp, Hr⟩, Hk⟩
        iapply (wp_part9_first (gath m) K (grid0.coords t) c _ _ oM (Memref.isWhole_whole _) _ ((first_iff t).mpr h))
        isplitl [Hp]; · iexact Hp
        iintro ⟨Hs, Hrest⟩
        ihave Hready := Hr $$ Hs
        iapply Hk
        isplitl [Hready] <;> iassumption)
      (own_part m c t))
    unfold xPts
    ihave Hs := (signals_intro (gath m) K c) $$ [Hd Hdu Hg Ho]
    · isplitr; · iexact HR
      isplitl [Hd]; · iexact Hd
      isplitl [Hdu]; · iexact Hdu
      isplitr; · iexact Hlev
      isplitl [Hg] <;> iassumption
    icases Hs with ⟨Hs, Hr⟩
    isplitl [Hs Hr Hv Hw Hx]
    · isplitr [Hr]
      · isplitl [Hs]; · iexact Hs
        isplitl [Hv]; · iexact Hv
        isplitl [Hw] <;> iassumption
      iexact Hr
    isplitl [Hout]; · iexact Hout
    iintro ⟨Hx, Ha⟩
    ihave Ha := (after_out m c t K f) $$ Ha
    icases Ha with ⟨Hp, Ho, Hout⟩
    isplitl [Hp]; · iexact Hp
    isplitl [Ho]; · iexact Ho
    isplitl [Hx] <;> iassumption
  · obtain ⟨n, hn⟩ : ∃ n, t.val = n + 1 := ⟨t.val - 1, by omega⟩
    have h7 : n ≠ 7 := by have := Nat.lt_of_lt_of_eq t.isLt N_0; omega
    rw [show phi m c t.val = iprop((∃ K, held (gath m) K c) ∗ vPts c (scan m c t.val).1 ∗ wPts (F := F) c (scan m c t.val).2) from by
        rw [hn]; exact phi_next m c n h7,
      show owing c t.val = left (oRecv c) 0 from by rw [hn]; exact owing_next c n h7]
    unfold xPts
    iintro ⟨⟨⟨%K, Hh⟩, Hv, Hw⟩, Ho, Hx, Hout⟩
    iapply (wp_body (gath m) K (grid0.coords t) c (win0_0.stage (cfg0.slots t 0)) _ (blk m c t.val) (scan m c t.val).1 (scan m c t.val).2 f
      iprop(ready (gath m) K c ∗ vPts c (scan m c t.val).1 ∗ wPts (F := F) c (scan m c t.val).2 ∗ xPts m c t)
      (fun Q => by
        unfold xPts
        iintro ⟨⟨Hr, Hp⟩, Hk⟩
        iapply (wp_part9_later (grid0.coords t) c _ _ oM (Memref.isWhole_whole _) _ _ _ (fun e => h ((first_iff t).mp e)))
        isplitl [Hp]; · iexact Hp
        iintro Hp
        iapply Hk
        isplitl [Hr] <;> iassumption)
      (own_part m c t))
    unfold xPts
    isplitl [Hh Ho Hv Hw Hx]
    · isplitl [Hh Ho]
      · iapply (ready_of (gath m) K c)
        isplitl [Hh] <;> iassumption
      isplitl [Hv]; · iexact Hv
      isplitl [Hw] <;> iassumption
    isplitl [Hout]; · iexact Hout
    iintro ⟨Hx, Ha⟩
    ihave Ha := (after_out m c t K f) $$ Ha
    icases Ha with ⟨Hp, Ho, Hout⟩
    isplitl [Hp]; · iexact Hp
    isplitl [Ho]; · iexact Ho
    isplitl [Hx] <;> iassumption

end Step

end Cert.Exchange
-- ==== Proof.Deal.lean ====
/- How the launch's ghost state is dealt to the eight devices: every cell's invariant to all of them, the token of
   each duty to the device that pays it, and to each device the credit for what the others pay it. -/
module

public import proofs.«01_k».proof.Proof.Points

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the duties -/

theorem csem_injective : Function.Injective csem := by
  intro j j' h
  unfold csem at h
  by_cases hj : j.val = 0 <;> by_cases hj' : j'.val = 0
  · exact Fin.ext (hj.trans hj'.symm)
  · rw [dif_pos hj, dif_neg hj'] at h; cases h
  · rw [dif_neg hj, dif_pos hj'] at h; cases h
  · rw [dif_neg hj, dif_neg hj'] at h
    have := congrArg Fin.val (SemLoc.dma.inj h)
    simp only at this
    exact Fin.ext (by omega)

theorem kcell_injective : Function.Injective (kcell : Dev nD × Fin 16 → GSem nD τ sig) := by
  rintro ⟨c, j⟩ ⟨c', j'⟩ h
  have hc : c = c' := congrArg (fun x : GSem nD τ sig => x.1.1) h
  have hj : j = j' := csem_injective (congrArg Prod.snd h)
  rw [hc, hj]

def allCells : Finset (GSem nD τ sig) := Finset.univ.map ⟨kcell, kcell_injective⟩

/-- A device's own duties, each by its cell: the barrier's, the send cells', the receive cells'. -/
abbrev dutyOf : Dev nD × (Fin 7 ⊕ Fin 7 ⊕ Fin 7) → GSem nD τ sig × ℕ × Fin 7
  | (c, .inl k) => (barCell c, 0, k)
  | (c, .inr (.inl k)) => (sendCell c k, 0, 0)
  | (c, .inr (.inr k)) => (recvCell c (src c k), 0, 0)

theorem dutyOf_injective : Function.Injective dutyOf := by
  rintro ⟨c, i⟩ ⟨c', i'⟩ h
  have hc : c = c' := by
    have := congrArg (fun x : GSem nD τ sig × ℕ × Fin 7 => x.1.1.1) h
    rcases i with k | k | k <;> rcases i' with k' | k' | k' <;> exact this
  subst hc
  have hs : (dutyOf (c, i)).1.2 = (dutyOf (c, i')).1.2 := congrArg (fun x : GSem nD τ sig × ℕ × Fin 7 => x.1.2) h
  have hd : (dutyOf (c, i)).2.2 = (dutyOf (c, i')).2.2 := congrArg (fun x : GSem nD τ sig × ℕ × Fin 7 => x.2.2) h
  rcases i with k | k | k <;> rcases i' with k' | k' | k' <;> dsimp only [dutyOf] at hs hd <;> first
    | cases hs
    | skip
  all_goals try have hv := congrArg Fin.val (SemLoc.dma.inj hs)
  all_goals try dsimp only at hv
  · rw [hd]
  · rw [show k = k' from Fin.ext (by omega)]
  · have := k.isLt; omega
  · have := k'.isLt; omega
  · rw [src_inj c (Fin.ext (by omega) : src c k = src c k')]

def allDuties : Finset (GSem nD τ sig × ℕ × Fin 7) := Finset.univ.map ⟨dutyOf, dutyOf_injective⟩

def u₀ : UU :=
  (initOf (Pipeline.cells cfgs cellOf_inj) (Pipeline.launchToks cfgs cellOf_inj), initOf allCells allDuties)

/-- The tokens of the duties of the device's own cells. -/
def minted (c : Dev nD) : sProp 𝕄 :=
  iprop((bigSep Finset.univ fun k : Fin 7 => dutyTok ER (barCell c) 0 k)
    ∗ (bigSep Finset.univ fun k : Fin 7 => dutyTok ER (sendCell c k) 0 (0 : Fin 7))
    ∗ bigSep Finset.univ fun k : Fin 7 => dutyTok ER (recvCell c (src c k)) 0 (0 : Fin 7))

/-- The tokens of the duties the device pays. -/
def paid (c : Dev nD) : sProp 𝕄 :=
  iprop((bigSep Finset.univ fun k : Fin 7 => dutyTok ER (barCell (tgt c k)) 0 k)
    ∗ (bigSep Finset.univ fun k : Fin 7 => dutyTok ER (sendCell c k) 0 (0 : Fin 7))
    ∗ bigSep Finset.univ fun k : Fin 7 => dutyTok ER (recvCell (tgt c k) c) 0 (0 : Fin 7))

/-- A family over the devices and the distances, each member moved its distance along. -/
theorem moved (Φ : Dev nD → Fin 7 → sProp 𝕄) :
    (bigSep Finset.univ fun c => bigSep Finset.univ fun k => Φ c k) = bigSep Finset.univ fun c => bigSep Finset.univ fun k => Φ (tgt c k) k := by
  rw [bigSep_univ_comm Φ, bigSep_univ_comm fun c k => Φ (tgt c k) k]
  exact bigSep_congr fun k _ => bigSep_univ_equiv (shift k) fun c => Φ c k

theorem minted_paid : (bigSep Finset.univ fun c : Dev nD => minted (F := F) c) = bigSep Finset.univ fun c : Dev nD => paid (F := F) c := by
  unfold minted paid
  rw [bigSep_sep', bigSep_sep', bigSep_sep', bigSep_sep', moved fun c k => dutyTok ER (barCell c) 0 k,
    moved fun c k => dutyTok ER (recvCell c (src c k)) 0 (0 : Fin 7)]
  simp only [src_tgt]

section Deal

variable (g : Vec F S8x2x1024 .f32)

/-- A device's positions in the rounds of its sixteen cells. -/
def positions (c : Dev nD) : sProp 𝕄 := bigSep Finset.univ fun j : Fin 16 => atPos ER (kcell (c, j)) 0 (∅ : Finset (Fin 7)) 0
/-- Round 0 of each of its cells is open. -/
def opened (c : Dev nD) : sProp 𝕄 := bigSep Finset.univ fun j : Fin 16 => reached ER (kcell (c, j)) 0

/-- What is made for device `c` at launch. -/
def made (c : Dev nD) : sProp 𝕄 :=
  iprop((bigSep Finset.univ fun j : Fin 16 => roundState ER (Rd g) (kcell (c, j)) 0) ∗ positions (F := F) c ∗ opened (F := F) c ∗ minted (F := F) c)
/-- What it starts with. -/
def given (c : Dev nD) : sProp 𝕄 := iprop(∃ K, records g K ∗ dealt (F := F) c)

theorem over_cells (Φ : GSem nD τ sig → sProp 𝕄) : bigSep allCells Φ = bigSep Finset.univ fun c : Dev nD => bigSep Finset.univ fun j : Fin 16 => Φ (kcell (c, j)) := by
  unfold allCells; rw [bigSep_map, bigSep_univ_prod]; rfl
theorem over_duties : bigSep allDuties (fun x => (dutyTok ER x.1 x.2.1 x.2.2 : sProp 𝕄)) = bigSep Finset.univ fun c : Dev nD => minted c := by
  unfold allDuties; rw [bigSep_map, bigSep_univ_prod]
  exact bigSep_congr fun c _ => by unfold minted; rw [bigSep_univ_sum, bigSep_univ_sum]; rfl

theorem made_intro : BI.own (ER (initOf allCells allDuties)) ⊢ (|==> bigSep Finset.univ (made g) : sProp 𝕄) := by
  iintro H
  imod (Rounds.fund ER (Rd g) allCells allDuties) $$ H with ⟨Hst, Hr, Hat, Htok⟩
  imodintro
  ihave Hst := (Entails.of_eq (over_cells fun x => roundState ER (Rd g) x 0)) $$ Hst
  ihave Hat := (Entails.of_eq (over_cells fun x => (atPos ER x 0 (∅ : Finset (Fin 7)) 0 : sProp 𝕄))) $$ Hat
  ihave Hr := (Entails.of_eq (over_cells fun x => (reached ER x 0 : sProp 𝕄))) $$ Hr
  ihave Htok := (Entails.of_eq (over_duties (F := F))) $$ Htok
  unfold made positions opened; simp only [bigSep_sep']
  isplitl [Hst]; · iexact Hst
  isplitl [Hat]; · iexact Hat
  isplitl [Hr] <;> iassumption

/-! ## The semaphores, at zero -/

theorem unscoped_eq (c : Dev nD) : (unscopedSems0 c : sProp 𝕄) = semVal (barCell c) 0 := by
  unfold unscopedSems0; rw [bigSep_eq_bigSepL_of_eq [SemLoc.reg barS] (by decide) (by decide)]; rfl
theorem own_eq (c : Dev nD) : (Pipeline.ownSems0 (Ix := Unit) (Name := ℕ) (U := UU) (Lvl := ℕ) (Val := Elt F) (τ := τ) osem c : sProp 𝕄)
    = bigSep Finset.univ fun j : Fin 15 => semVal (kcell (c, ownIx j)) 0 := by
  unfold Pipeline.ownSems0
  exact bigSep_congr fun j _ => by show _ = semVal ((c : Thread nD τ), csem (ownIx j)) 0; rw [csem_own]
theorem zeros_eq (c : Dev nD) :
    (bigSep Finset.univ fun j : Fin 16 => (semVal (kcell (c, j)) 0 : sProp 𝕄))
      = iprop(unscopedSems0 c ∗ Pipeline.ownSems0 (Ix := Unit) (Name := ℕ) (U := UU) (Lvl := ℕ) (Val := Elt F) (τ := τ) osem c) := by
  rw [split_cells, unscoped_eq, own_eq]; rfl
theorem own_split (c : Dev nD) : (Pipeline.ownSems0 (Ix := Unit) (Name := ℕ) (U := UU) (Lvl := ℕ) (Val := Elt F) (τ := τ) osem c : sProp 𝕄)
    = iprop((bigSep Finset.univ fun k : Fin 7 => semVal (sendCell c k) 0) ∗ bigSep Finset.univ fun s : Dev nD => semVal (recvCell c s) 0) := by
  rw [own_eq, split_own]
  exact congrArg₂ _ (bigSep_congr fun k _ => by rw [← kcell_send]) (bigSep_congr fun s _ => by rw [← kcell_recv])

/-! ## The dealing -/

/-- Each of a device's cells gets its invariant. -/
theorem invariants (c : Dev nD) :
    iprop((bigSep Finset.univ fun j : Fin 16 => (semVal (kcell (c, j)) 0 : sProp 𝕄)) ∗ bigSep Finset.univ fun j : Fin 16 => roundState ER (Rd g) (kcell (c, j)) 0)
      ⊢ (|={Set.univ}=> bigSep Finset.univ fun j : Fin 16 => iprop(∃ κ : ℕ, cellInv ER (Rd g) κ (kcell (c, j))) : sProp 𝕄) := by
  rw [← bigSep_sep']
  exact (bigSep_mono fun j _ => (Rounds.body_intro ER (Rd g) (kcell (c, j))).trans inv_alloc).trans (bigSep_fupd _ _)

theorem alloc (c : Dev nD) :
    iprop(Pipeline.ownSems0 (Ix := Unit) (Name := ℕ) (U := UU) (Lvl := ℕ) (Val := Elt F) (τ := τ) osem c ∗ unscopedSems0 c ∗ made g c)
      ⊢ |={Set.univ}=> iprop((bigSep Finset.univ fun j : Fin 16 => iprop(∃ κ : ℕ, cellInv ER (Rd g) κ (kcell (c, j))))
          ∗ positions (F := F) c ∗ opened (F := F) c ∗ minted (F := F) c) := by
  unfold made
  iintro ⟨Ho, Hu, Hst, Hrest⟩
  ihave Hz := (Entails.of_eq (zeros_eq (F := F) c).symm) $$ [Ho Hu]
  · isplitl [Hu] <;> iassumption
  imod (invariants g c) $$ [Hz Hst] with Hinv
  · isplitl [Hz] <;> iassumption
  imodintro
  isplitl [Hinv] <;> iassumption

theorem dealt_intro (c : Dev nD) : iprop(positions (F := F) c ∗ paid (F := F) c) ⊢ dealt (F := F) c := by
  unfold positions paid dealt toks sendPos
  rw [split_cells, split_own, bigSep_sep', kcell_bar]
  simp only [kcell_send, kcell_recv]
  iintro ⟨⟨Hb, Hs, Hr⟩, Htb, Hts, Htr⟩
  isplitl [Htb]; · iexact Htb
  isplitl [Hts Htr]
  · isplitl [Hts] <;> iassumption
  isplitl [Hb]; · iexact Hb
  isplitl [Hs] <;> iassumption

theorem given_intro (K : Dev nD × Fin 16 → ℕ) (c : Dev nD) : iprop(records g K ∗ (positions (F := F) c ∗ paid (F := F) c)) ⊢ given g c := by
  unfold given
  iintro ⟨HR, H⟩
  iexists K
  isplitl [HR]; · iexact HR
  iapply (dealt_intro c) $$ H

/-- What every member may use goes to all of them. -/
theorem to_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  refine (BI.sep_mono (BI.bigSep_of_persistent (Finset.univ : Finset (Dev nD)) R) (Entails.refl _)).trans ?_
  show iprop((bigSep Finset.univ fun _ : Dev nD => R) ∗ bigSep Finset.univ Φ) ⊢ _
  rw [← bigSep_sep']
  exact bigSep_mono fun c _ => h c

theorem regroup :
    (bigSep Finset.univ fun c : Dev nD => iprop((bigSep Finset.univ fun j : Fin 16 => iprop(∃ κ : ℕ, cellInv ER (Rd g) κ (kcell (c, j))))
        ∗ positions (F := F) c ∗ opened (F := F) c ∗ minted (F := F) c) : sProp 𝕄)
      ⊢ bigSep Finset.univ (given g) := by
  unfold opened
  rw [bigSep_sep', bigSep_sep', bigSep_sep', minted_paid,
    ← bigSep_univ_prod (fun ck : Dev nD × Fin 16 => iprop(∃ κ : ℕ, cellInv ER (Rd g) κ (kcell ck))),
    ← bigSep_univ_prod (fun ck : Dev nD × Fin 16 => (reached ER (kcell ck) 0 : sProp 𝕄))]
  iintro ⟨HI, Hpos, #HR, Htok⟩
  ihave HK := (BI.bigSep_exists_pi Finset.univ (fun (ck : Dev nD × Fin 16) (κ : ℕ) => (cellInv ER (Rd g) κ (kcell ck) : sProp 𝕄))) $$ HI
  icases HK with ⟨%K, #HI⟩
  iapply (to_all (R := records g K) fun c => given_intro g K c)
  isplitr
  · unfold records; isplitl; · iexact HI
    iexact HR
  rw [bigSep_sep']
  isplitl [Hpos] <;> iassumption

theorem deal : (bigSep Finset.univ fun c => iprop(Pipeline.ownSems0 (Ix := Unit) (Name := ℕ) (U := UU) (Lvl := ℕ) (Val := Elt F) (τ := τ) osem c
      ∗ unscopedSems0 c ∗ made g c) : sProp 𝕄)
    ⊢ |={Set.univ}=> bigSep Finset.univ (given g) :=
  ((bigSep_mono fun c _ => alloc g c).trans (bigSep_fupd _ _)).trans (BI.fupd_mono (regroup g))

end Deal

/-! ## The credits -/

theorem at_tc {c : Dev nD} {sm : SemLoc sig} {n : ℕ} {x : GSem nD τ sig} (h : (tallyAt ((c : Thread nD τ), sm) () n : CellTallies nD τ sig Unit) x ≠ 0) :
    x.1 = (c : Thread nD τ) := by
  by_contra hn
  exact h (tallyAt_ne_cell (fun e => hn (congrArg Prod.fst e)) _ _)

theorem tally_times (x : GSem nD τ sig) (n : ℕ) : n • (tallyAt x () 1 : CellTallies nD τ sig Unit) = tallyAt x () n := by
  induction n with
  | zero => rw [zero_smul, tallyAt_zero]
  | succ n ih => rw [succ_nsmul, ih, tallyAt_add]

/-- The seven signals every device owes are the seven units each waits for. -/
theorem cred_bar (c : Dev nD) : (Pipeline.launchCred (fun d => left (oBar d) 0) c : sProp 𝕄) = cred (tallyAt (barCell c) () 7) :=
  Pipeline.launchCred_of_sum (fun d => left (oBar d) 0) (fun d => tallyAt (barCell d) () 7) (by
    simp only [left_zero]
    rw [Finset.sum_comm, Finset.sum_congr rfl fun k _ => (show ∑ d, oBar d k = ∑ d : Dev nD, (tallyAt (barCell d) () 1 : CellTallies nD τ sig Unit) from
        Equiv.sum_comp (shift k) fun d => (tallyAt (barCell d) () 1 : CellTallies nD τ sig Unit)),
      Finset.sum_const, Finset.card_univ, Fintype.card_fin, ← Finset.sum_nsmul]
    exact Finset.sum_congr rfl fun d _ => tally_times (barCell d) 7) (fun d x h => at_tc h) c

/-- The copies every device owes are the copies each waits for. -/
theorem cred_recv (c : Dev nD) : (Pipeline.launchCred (fun d => left (oRecv d) 0) c : sProp 𝕄)
    = bigSep Finset.univ fun k : Fin 7 => cred (tallyAt (recvCell c (src c k)) () N) := by
  simp only [left_zero]
  rw [Pipeline.launchCred_sum Finset.univ (fun k d => oRecv d k) c]
  refine bigSep_congr fun k _ => Pipeline.launchCred_of_sum (fun d => oRecv d k) (fun d => tallyAt (recvCell d (src d k)) () N) ?_ (fun d x h => at_tc h) c
  rw [← Equiv.sum_comp (shift k) fun d => (tallyAt (recvCell d (src d k)) () N : CellTallies nD τ sig Unit)]
  refine Finset.sum_congr rfl fun d _ => ?_
  show tallyAt (recvCell (tgt d k) d) () N = tallyAt (recvCell (tgt d k) (src (tgt d k) k)) () N
  rw [src_tgt]

theorem dues_intro (c : Dev nD) : (Pipeline.launchCred O₀ c : sProp 𝕄) ⊢ dues c := by
  unfold dues
  rw [← cred_bar, ← cred_recv, show (O₀ : Dev nD → CellTallies nD τ sig Unit) = fun d => left (oRecv d) 0 + left (oBar d) 0 from rfl]
  refine (Entails.of_eq (Pipeline.launchCred_add (fun d => left (oRecv d) 0) (fun d => left (oBar d) 0) c)).trans ?_
  iintro ⟨H, H'⟩
  isplitl [H'] <;> iassumption

end Cert.Exchange
-- ==== Proof.Run.lean ====
/- The run of @main: the pipeline's data, the body's obligation, the launch. -/
module

public import proofs.«01_k».proof.Proof.Deal
public import Idealize.ShloMosaic.Lib.Pipeline.Quiescent

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's data -/

/-- What each window's staging buffer holds after a point, and what the device holds and owes before it. -/
def dats (_ : Fin 1) (c : Dev nD) : Dat τ (Elt F) Unit ℕ UU ℕ cfg0 c where
  A w := V m c (Pipeline.arrRef spec0 w)
  after w t := match w with
    | ⟨0, _⟩ => blk m c t.val
    | ⟨1, _⟩ => outOf (gath m)
  Φ t := phi m c t.val
  q _ := fullShare
  owed t := owing c t.val

theorem blk_eq (c : Dev nD) (t : Fin cfg0.N) : blk m c t.val = iblk m c 0 t := by unfold blk; rw [pt_val]

theorem before_in (c : Dev nD) (t : Fin cfg0.N) (d) : (dats m 0 c).before 0 t d = blk m c t.val := by
  rw [blk_eq]
  exact ((dats m 0 c).before_in_eq_fetched 0 rfl (fun _ => rfl) (fun _ _ _ => rfl) (fun t => blk_eq m c t) t d).trans rfl

theorem stage_out (t : Fin cfg0.N) : win0_1.stage (cfg0.slots t 1) = oM := by
  obtain ⟨s, hs⟩ : ∃ s : Fin 1, (cfg0.slots t 1).cast nbuf0_1 = s := ⟨_, rfl⟩
  have h0 : win0_1.stage (cfg0.slots t 1) = stage0_1 s := by rw [← hs]; rfl
  rw [h0, Subsingleton.elim s 0]

theorem owns_out (c : Dev nD) (t : Fin cfg0.N) (X : Vec F S2x1024 .f32) :
    (owns (c : Thread nD τ) (win0_1.stage (cfg0.slots t 1)) fullShare X : sProp 𝕄) = oPts c X := by
  rw [stage_out]
  unfold owns oPts
  simp only [Memref.view_whole, View.read_whole, View.set_whole]
  refine Entails.antisymm (show iprop(∃ f : Buf (Elt F) ((c : Thread nD τ).loc cc0_stg1_0), ⌜f = X⌝ ∗ (((c : Thread nD τ).loc cc0_stg1_0) ↦{fullShare} f)) ⊢ (((c : Thread nD τ).loc cc0_stg1_0) ↦{fullShare} X : sProp 𝕄) from ?_)
    (show (((c : Thread nD τ).loc cc0_stg1_0) ↦{fullShare} X : sProp 𝕄) ⊢ iprop(∃ f : Buf (Elt F) ((c : Thread nD τ).loc cc0_stg1_0), ⌜f = X⌝ ∗ (((c : Thread nD τ).loc cc0_stg1_0) ↦{fullShare} f)) from ?_)
  · iintro ⟨%f, %hf, H⟩; subst hf; iexact H
  · iintro H; iexists X; isplitr; · (ipureintro; rfl)
    iexact H

theorem idle_out (t : Fin cfg0.N) : cfg0.idle 1 (grid0.coords t) = true ↔ t.val ≠ 7 := by
  have h := last_iff t
  show (!(k0_cond2 (grid0.coords t) == 1#1)) = true ↔ _
  rw [Bool.not_eq_true', beq_eq_false_iff_ne, Ne, h]

/-- What the obligation asks of the result's buffer after a point. -/
def outPost (c : Dev nD) (t : Fin cfg0.N) : sProp 𝕄 :=
  match cfg0.idle 1 (grid0.coords t) with
  | true =>
    match (cfg0.win 1).flush t with
    | false => iprop(∃ d, owns (c : Thread nD τ) (win0_1.stage (cfg0.slots t 1)) fullShare ((dats m 0 c).before 1 t d))
    | true => owns (c : Thread nD τ) (win0_1.stage (cfg0.slots t 1)) fullShare ((dats m 0 c).after 1 t)
  | false => owns (c : Thread nD τ) (win0_1.stage (cfg0.slots t 1)) fullShare ((dats m 0 c).after 1 t)

theorem outPost_intro (c : Dev nD) (t : Fin cfg0.N) (d) : oPts c (outAfter m t ((dats m 0 c).before 1 t d)) ⊢ outPost m c t := by
  unfold outPost outAfter
  by_cases h : t.val = 7
  · rw [show cfg0.idle 1 (grid0.coords t) = false from by
      rw [← Bool.not_eq_true, idle_out]; exact fun e => e h, if_pos h]
    exact Entails.of_eq (owns_out c t (outOf (gath m))).symm
  · rw [(idle_out t).mpr h, show (cfg0.win 1).flush t = false from by
      rw [← Bool.not_eq_true, flush0_1]; have := Nat.lt_of_lt_of_eq t.isLt N_0; omega, if_neg h]
    dsimp only
    iintro H
    iexists d
    iapply (Entails.of_eq (owns_out c t ((dats m 0 c).before 1 t d)).symm) $$ H

theorem debt_of (c : Dev nD) (t : Fin (cfg0.N + 1)) : (dats m 0 c).owesAt () t ⊢ debt (F := F) c (owing c t.val) := by
  unfold Dat.owesAt Pipeline.owesWithin debt
  iintro ⟨%W, %hW, H⟩
  iexists W; iexact H
theorem of_debt (c : Dev nD) (t : Fin (cfg0.N + 1)) : debt (F := F) c (owing c t.val) ⊢ (dats m 0 c).owesAt () t := by
  unfold Dat.owesAt Pipeline.owesWithin debt
  iintro ⟨%W, H⟩
  iexists W; isplitr; · ipureintro; exact fun _ _ => Or.inl trivial
  iexact H

theorem body_obligation (c : Dev nD) : BodyObligation (dats m 0 c) (defs₀ (F := F)) 𝒱₀ () Set.univ := fun t => by
  rw [bigSep_W0, bigSep_W0]
  show iprop(phi m c t.val ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d)))
    ⊢ wp frame (wpE (defs₀ (F := F)) 𝒱₀ (c : Thread nD τ) none) Set.univ (bodyAt0 t)
      fun _ => iprop(phi m c (t.val + 1) ∗ (dats m 0 c).owesAt () t.succ ∗ xPts m c t ∗ outPost m c t)
  have hpost (d') : iprop(phi m c (t.val + 1) ∗ debt (F := F) c (owing c (t.val + 1)) ∗ xPts m c t ∗ oPts c (outAfter m t ((dats m 0 c).before 1 t d')))
      ⊢ iprop(phi m c (t.val + 1) ∗ (dats m 0 c).owesAt () t.succ ∗ xPts m c t ∗ outPost m c t) :=
    BI.sep_mono (Entails.refl _) (BI.sep_mono (of_debt m c t.succ) (BI.sep_mono (Entails.refl _) (outPost_intro m c t d')))
  iintro ⟨Hp, Ho, ⟨%d, Hx⟩, ⟨%d', Hout⟩⟩
  ihave Ho := (debt_of m c t.castSucc) $$ Ho
  ihave Hx := (Entails.of_eq (show owns (c : Thread nD τ) (win0_0.stage (cfg0.slots t 0)) fullShare ((dats m 0 c).before 0 t d) = xPts m c t from by
    rw [before_in]; rfl)) $$ Hx
  ihave Hout := (Entails.of_eq (owns_out c t ((dats m 0 c).before 1 t d'))) $$ Hout
  iapply ((wp_point m c t ((dats m 0 c).before 1 t d')).trans (wp_mono _ _ _ fun _ => hpost d'))
  isplitl [Hp]; · iexact Hp
  isplitl [Ho]; · iexact Ho
  isplitl [Hx] <;> iassumption

/-! ## The launch's side conditions -/

theorem ownSemFacts : Pipeline.OwnSemFacts cfg0.spec osem := by decide

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ given (gath m) c)
      ⊢ |={Set.univ}=> iprop(start (gath m) c ∗ emp) := by
  iintro ⟨-, Hlev, Hcr, -, HG⟩
  ihave Hc := (dues_intro (F := F) c) $$ Hcr
  imodintro
  unfold start given
  isplitl
  · isplitl [HG]; · iexact HG
    isplitl [Hc] <;> iassumption
  · iempintro

theorem first_point (c : Dev nD) :
    iprop(start (gath m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start (gath m) c ∗ scratch (F := F) c) from rfl, scopedRest0_eq]
  unfold scratch vPts wPts gPts
  iintro ⟨Hs, -, Hr⟩
  isplitl [Hs]; · iexact Hs
  iexact Hr

theorem last_point (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = ending (F := F) c from (congrArg (phi m c) N_0).trans (phi_last m c 7 rfl), scopedRest0_eq, own_split, unscoped_eq]
  unfold ending scratch vPts wPts gPts
  iintro ⟨⟨Hb, Hs, Hr⟩, Hscr⟩
  isplitl [Hb]; · iexact Hb
  isplitl [Hs Hr]
  · isplitl [Hs] <;> iassumption
  iexact Hscr

theorem owed_form (c : Dev nD) (n : ℕ) : ∃ k k', owing c n = left (oRecv c) k + left (oBar c) k' := by
  rcases n with _ | n
  · exact ⟨0, 0, rfl⟩
  by_cases h : n = 7
  · exact ⟨7, 7, by rw [owing_last c n h, left_all, left_all, add_zero]⟩
  · exact ⟨0, 7, by rw [owing_next c n h, left_all, add_zero]⟩

theorem waits (c : Dev nD) : (levAts L lv : sProp 𝕄) ⊢ Pipeline.cellsWaits cfgs (dats m) () 0 c :=
  Pipeline.cellsWaits_intro cfgs (dats m) () 0 c fun w s t => by
    obtain ⟨k, k', h⟩ := owed_form c t.val
    show _ ⊢ MayWait _ _ () (owing c t.val)
    rw [h]
    exact mayWait_stage c _ (by revert s; fin_cases w <;> decide) k k'

/-! ## The run -/

def finalA (c : Dev nD) (w : Fin cfg0.W) : Buf (Elt F) ((cfg0.win w).arr.view.loc (c : Thread nD τ)) := (dats m 0 c).arrAt w cfg0.N

/-- Every window's array holds what the pipeline's data say. -/
def AtEnd (r : PUnit × MemSt nD τ sig (Elt F)) : Prop :=
  ∀ c : Dev nD, ∀ w : Fin cfg0.W, r.2.mem ((cfg0.win w).arr.view.loc (c : Thread nD τ)) = finalA m c w

/-- On eight devices, for any float values, from any memory with zero counters: every weakly fair execution of @main
    terminates, with each device's arrays as the pipeline's data say and every semaphore counter at zero. -/
theorem run_main (ρ : Dev nD → PrngReg) : θ_run defs (onTc (τ := τ) (main (F := F))) (s₀ m ρ) (fun r => AtEnd m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun c => (congrArg (owing c) N_0).trans (owing_last c 7 rfl))
    (L := L) (lv := lv) (hL := L_of_ne) (hwaits := waits m)
    (G := made (gath m)) (G' := given (gath m)) (u₀ := u₀)
    (hu₀ := by
      unfold u₀
      iintro Hu
      ihave H := (ownU_pair _ _) $$ Hu
      icases H with ⟨HP, HX⟩
      imod (made_intro (gath m)) $$ HX with HG
      imodintro
      isplitl [HP] <;> iassumption)
    (hglob := deal (gath m))
    (hA := fun _ _ => rfl) (hpf := fun _ k => k.elim0)
    (X := start (gath m)) (Y := fun c => unscopedSems0 c) (Z := fun _ => iprop(emp))
    (hX := start_intro m ρ) (hin := first_point m) (hout := last_point m)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr; · ipureintro; exact h
      iexact HSI)
    (hQ := fun _ h hs => ⟨fun c w => (h c).1 w, sem_eq_zero hs fun c => (h c).2.2⟩)

/-- The argument holds what it held. -/
theorem finalA_arg (c : Dev nD) : finalA m c (0 : Fin 2) = m (win0_0.arr.view.loc (c : Thread nD τ)) :=
  (dats m 0 c).arrAt_in (0 : Fin 2) rfl _

end Cert.Exchange
-- ==== Proof.Ref.lean ====
/- The reference's run. -/
module

public import proofs.«01_k».proof.Defs
public import proofs.«01_k».proof.Proof.Gen.ReferenceIdeal
public import Idealize.ShloMosaic.Lib.Claim
public import Idealize.ShloMosaic.Adequacy
public import Idealize.ShloMosaic.Init

@[expose] public section

noncomputable section

namespace Cert.Ref

open Cert.ReferenceIdeal
open Idealize.ShloMosaic Idealize.ShloMosaic.TcCoe Idealize.SL.Sem

variable (m : (ℓ : Loc nD τ sig) → Buf (Elt Ideal) ℓ) (ρ : Dev nD → PrngReg)

theorem frame : Cert.quiescent_ReferenceIdeal := by
  intro m ρ _
  hlo_run
  · exact fun _ => trivial
  · exact funext fun g => by
      rcases g with ⟨t, s | s⟩ <;> exact s.elim0

/-- The first places of the columns' maxima, as the reference folds for them. -/
def places (x : Vec Ideal S32768x1024 .bf16) : IVec S1024 32 := fun j =>
  (Host.argReduce (F := Ideal) reducer_argmax_bf16_i32 x (iotaInDim S32768x1024 32 0) (constant S_ .bf16 0xFF80#16) (constantI S_ 32 0#32)
    Facts₀.reducesTo_S32768x1024_S1024_d0 Facts₀.h_S_ j).2

/-- The columns' maxima, as the reference folds for them. -/
def maxima (x : Vec Ideal S32768x1024 .bf16) : FVec Ideal S1024 .bf16 :=
  Host.reduce FloatOps.maximumf x (constant S_ .bf16 0xFF80#16) Facts₀.reducesTo_S32768x1024_S1024_d0 Facts₀.h_S_

/-- The reference's two rows. -/
def out (x : Vec Ideal S32768x1024 .bf16) : FVec Ideal S2x1024 .f32 :=
  concatenate S2x1024 0 [⟨S1x1024, broadcastInDim S1x1024 ![1] Facts₀.bcast_S1024_S1x1024_1 (extf .f32 (maxima x) Facts₀.bitsLt_bf16_f32)⟩,
    ⟨S1x1024, broadcastInDim S1x1024 ![1] Facts₀.bcast_S1024_S1x1024_1 (sitofp .f32 (places x))⟩]
    Facts₀.concatenates_S1x1024_S1x1024_S2x1024_d0

theorem run :
   θ_run (Cert.ReferenceIdeal.defs (F := Ideal)) (onTc (τ := Cert.ReferenceIdeal.τ) (Cert.ReferenceIdeal.main (F := Ideal))) ⟨m, fun _ => 0, ρ⟩ (fun r =>
          r.2.mem (((0 : Dev Cert.ReferenceIdeal.nD).tc : Thread Cert.ReferenceIdeal.nD Cert.ReferenceIdeal.τ).loc Cert.ReferenceIdeal.main_v6)
            = out (m (((0 : Dev Cert.ReferenceIdeal.nD).tc : Thread Cert.ReferenceIdeal.nD Cert.ReferenceIdeal.τ).loc Cert.ReferenceIdeal.main_arg0))
          ∧ r.2.mem (((0 : Dev Cert.ReferenceIdeal.nD).tc : Thread Cert.ReferenceIdeal.nD Cert.ReferenceIdeal.τ).loc Cert.ReferenceIdeal.main_arg0) = m (((0 : Dev Cert.ReferenceIdeal.nD).tc : Thread Cert.ReferenceIdeal.nD Cert.ReferenceIdeal.τ).loc Cert.ReferenceIdeal.main_arg0)) := by
  hlo_run
  simp -implicitDefEqProofs only [StableHlo.TRef.toBuf, StableHlo.TRef.ofBuf, cast_eq]
  rfl

end Cert.Ref
-- ==== Proof.Best.lean ====
/- Maxima with their places, as plain mathematics: what it is for a number and a place to be the largest value of a
   sequence on a set and the first place where it is taken, how a scan from the left finds them, and how eight such
   findings are put together into one. -/
module

public import Mathlib.Data.EReal.Basic
public import Mathlib.Data.Finset.Lattice.Fold
public import Mathlib.Data.Finset.Max
public import Mathlib.Data.Fintype.Basic
public import Mathlib.Data.Finset.Fold
public import Mathlib.Order.Monotone.Basic

@[expose] public section

namespace Cert.Best

/-- On the set `S` the largest value of `X` is `M`, and `I` is the first place where it is taken. -/
def Best (S : ℕ → Prop) (X : ℕ → EReal) (M : EReal) (I : ℕ) : Prop :=
  S I ∧ X I = M ∧ (∀ r, S r → X r ≤ M) ∧ ∀ r, S r → X r = M → I ≤ r

/-- There is only one such value and one such place. -/
theorem Best.unique {S S' : ℕ → Prop} {X : ℕ → EReal} {M M' : EReal} {I I' : ℕ} (hS : ∀ r, S r ↔ S' r)
    (h : Best S X M I) (h' : Best S' X M' I') : M = M' ∧ I = I' := by
  obtain ⟨s, e, le, fst⟩ := h
  obtain ⟨s', e', le', fst'⟩ := h'
  have hM : M = M' := le_antisymm (e ▸ le' I ((hS I).1 s)) (e' ▸ le I' ((hS I').2 s'))
  exact ⟨hM, le_antisymm (fst I' ((hS I').2 s') (e'.trans hM.symm)) (fst' I ((hS I).1 s) (e.trans hM))⟩

/-- The set may be told in another way. -/
theorem Best.congr {S S' : ℕ → Prop} {X : ℕ → EReal} {M : EReal} {I : ℕ} (h : Best S X M I) (hS : ∀ r, S r ↔ S' r) : Best S' X M I :=
  ⟨(hS I).1 h.1, h.2.1, fun r hr => h.2.2.1 r ((hS r).2 hr), fun r hr => h.2.2.2 r ((hS r).2 hr)⟩

/-- A sequence read along an increasing map: the place found is sent along. -/
theorem Best.map {S : ℕ → Prop} {X : ℕ → EReal} {M : EReal} {I : ℕ} (f : ℕ → ℕ) (hf : Monotone f)
    (h : Best S (fun g => X (f g)) M I) : Best (fun r => ∃ g, S g ∧ r = f g) X M (f I) := by
  obtain ⟨s, e, le, fst⟩ := h
  refine ⟨⟨I, s, rfl⟩, e, ?_, ?_⟩
  · rintro r ⟨g, hg, rfl⟩
    exact le g hg
  · rintro r ⟨g, hg, rfl⟩ hr
    exact hf (fst g hg hr)

/-- What a scan from the left has found after `n` terms, started from the least value and the place 0. -/
def Found (x : ℕ → EReal) (n : ℕ) (v : EReal) (w : ℕ) : Prop :=
  (∀ g, g < n → x g ≤ v) ∧ (∀ g, g < n → x g = v → w ≤ g) ∧ ((v = ⊥ ∧ w = 0) ∨ (w < n ∧ x w = v))

theorem Found.zero (x : ℕ → EReal) : Found x 0 ⊥ 0 :=
  ⟨fun _ h => absurd h (Nat.not_lt_zero _), fun _ h => absurd h (Nat.not_lt_zero _), .inl ⟨rfl, rfl⟩⟩

theorem Found.place_le {x : ℕ → EReal} {n : ℕ} {v : EReal} {w : ℕ} (h : Found x n v w) : w ≤ n := by
  rcases h.2.2 with ⟨_, rfl⟩ | ⟨h, _⟩
  · exact Nat.zero_le _
  · exact h.le

/-- One more term: it is taken when it is above the largest so far. -/
theorem Found.step {x : ℕ → EReal} {n : ℕ} {v : EReal} {w : ℕ} (h : Found x n v w) :
    Found x (n + 1) (if v < x n then x n else v) (if v < x n then n else w) := by
  have hw := h.place_le
  obtain ⟨le, fst, at_⟩ := h
  by_cases hx : v < x n
  · rw [if_pos hx, if_pos hx]
    refine ⟨fun g hg => ?_, fun g hg e => ?_, .inr ⟨Nat.lt_succ_self n, rfl⟩⟩
    · rcases Nat.lt_succ_iff_lt_or_eq.1 hg with hg | rfl
      · exact (le g hg).trans hx.le
      · exact le_rfl
    · rcases Nat.lt_succ_iff_lt_or_eq.1 hg with hg | rfl
      · exact absurd (le g hg) (not_le.2 (e ▸ hx))
      · exact le_rfl
  · rw [if_neg hx, if_neg hx]
    refine ⟨fun g hg => ?_, fun g hg e => ?_, at_.imp id fun h => ⟨h.1.trans (Nat.lt_succ_self n), h.2⟩⟩
    · rcases Nat.lt_succ_iff_lt_or_eq.1 hg with hg | rfl
      · exact le g hg
      · exact not_lt.1 hx
    · rcases Nat.lt_succ_iff_lt_or_eq.1 hg with hg | rfl
      · exact fst g hg e
      · exact hw

/-- The same step told from the other side: the term so far is kept when it is above the new one, its place also when
    the two are equal and it comes first. -/
theorem Found.step_keep {x : ℕ → EReal} {n : ℕ} {v : EReal} {w : ℕ} (h : Found x n v w) :
    Found x (n + 1) (if x n < v then v else x n) (if x n < v ∨ (v = x n ∧ w < n) then w else n) := by
  have hw := h.place_le
  have key := h.step
  rcases lt_trichotomy v (x n) with hx | hx | hx
  · rw [if_pos hx, if_pos hx] at key
    rw [if_neg hx.le.not_gt, if_neg (by rintro (h | ⟨h, _⟩); exacts [hx.le.not_gt h, hx.ne h])]
    exact key
  · rw [if_neg hx.not_lt, if_neg hx.not_lt] at key
    rw [if_neg hx.not_gt]
    by_cases hn : w < n
    · rw [if_pos (.inr ⟨hx, hn⟩), ← hx]
      exact key
    · rw [if_neg (by rintro (h | h); exacts [hx.not_gt h, hn h.2]), ← hx]
      rw [le_antisymm hw (not_lt.1 hn)] at key
      exact key
  · rw [if_neg hx.le.not_gt, if_neg hx.le.not_gt] at key
    rw [if_pos hx, if_pos (.inl hx)]
    exact key

/-- After at least one term the scan has the largest value and its first place. -/
theorem Found.best {x : ℕ → EReal} {n : ℕ} {v : EReal} {w : ℕ} (h : Found x n v w) (hn : 0 < n) :
    Best (fun g => g < n) x v w := by
  obtain ⟨le, fst, at_⟩ := h
  rcases at_ with ⟨rfl, rfl⟩ | ⟨hw, e⟩
  · exact ⟨hn, le_bot_iff.1 (le 0 hn), le, fst⟩
  · exact ⟨hw, e, le, fst⟩

/-- A place as a value. -/
noncomputable def num (i : ℕ) : EReal := ((i : ℝ) : EReal)

theorem num_le {i j : ℕ} : num i ≤ num j ↔ i ≤ j := by
  unfold num
  rw [EReal.coe_le_coe_iff]
  exact Nat.cast_le

/-- Eight findings put together: the largest of the eight values, and the least place among those that carry it, the
    others being set to a value that no place exceeds. -/
theorem Best.join {S : Fin 8 → ℕ → Prop} {X : ℕ → EReal} {v : Fin 8 → EReal} {i : Fin 8 → ℕ}
    (h : ∀ s, Best (S s) X (v s) (i s)) (big : EReal) (hb : ∀ s, num (i s) ≤ big) :
    ∃ I, Best (fun r => ∃ s, S s r) X ((Finset.univ : Finset (Fin 8)).fold max ⊥ v) I
      ∧ (Finset.univ : Finset (Fin 8)).fold min ⊤ (fun s => if v s = (Finset.univ : Finset (Fin 8)).fold max ⊥ v then num (i s) else big) = num I
      ∧ ∃ s, I = i s := by
  have hsup : (Finset.univ : Finset (Fin 8)).fold max ⊥ v = (Finset.univ : Finset (Fin 8)).sup v := rfl
  rw [hsup]
  generalize hM : (Finset.univ : Finset (Fin 8)).sup v = M
  have hle : ∀ s, v s ≤ M := fun s => hM ▸ Finset.le_sup (Finset.mem_univ s)
  obtain ⟨a, -, ha⟩ := Finset.exists_mem_eq_sup (Finset.univ : Finset (Fin 8)) ⟨0, Finset.mem_univ _⟩ v
  obtain ⟨b, hbm, hmin⟩ := Finset.exists_min_image (Finset.univ.filter fun s => v s = M) i
    ⟨a, Finset.mem_filter.2 ⟨Finset.mem_univ _, ha.symm.trans hM⟩⟩
  have hbM : v b = M := (Finset.mem_filter.1 hbm).2
  have hfirst : ∀ s, v s = M → i b ≤ i s := fun s hs => hmin s (Finset.mem_filter.2 ⟨Finset.mem_univ _, hs⟩)
  refine ⟨i b, ⟨⟨b, (h b).1⟩, (h b).2.1.trans hbM, ?_, ?_⟩, ?_, b, rfl⟩
  · rintro r ⟨s, hs⟩
    exact ((h s).2.2.1 r hs).trans (hle s)
  · rintro r ⟨s, hs⟩ hr
    have hv : v s = M := le_antisymm (hle s) (hr ▸ (h s).2.2.1 r hs)
    exact (hfirst s hv).trans ((h s).2.2.2 r hs (hr.trans hv.symm))
  · have hinf : ∀ f : Fin 8 → EReal, (Finset.univ : Finset (Fin 8)).fold min ⊤ f = (Finset.univ : Finset (Fin 8)).inf f := fun _ => rfl
    rw [hinf]
    refine le_antisymm ((Finset.inf_le (Finset.mem_univ b)).trans (by rw [if_pos hbM])) (Finset.le_inf fun s _ => ?_)
    by_cases hs : v s = M
    · rw [if_pos hs]
      exact num_le.2 (hfirst s hs)
    · rw [if_neg hs]
      exact hb b

end Cert.Best
-- ==== Proof.Words.lean ====
/- Small facts about words and constants read as exact values. -/
module

public import proofs.«01_k».proof.Proof.Best
public import Idealize.ShloMosaic.PureOps.Ideal.Laws
public import Idealize.ShloMosaic.PureOps.Reduce
public import Mathlib.Tactic.NormNum

@[expose] public section

namespace Cert.Best

open Idealize.ShloMosaic

theorem toInt_word {n : ℕ} (h : n < 32768) : (BitVec.ofNat 32 n).toInt = (n : ℤ) := by
  rw [BitVec.toInt_ofNat']
  norm_num
  rw [Int.bmod_eq_of_le] <;> omega

theorem slt_word {a b : ℕ} (ha : a < 32768) (hb : b < 32768) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, toInt_word ha, toInt_word hb]
  simp

theorem select_ofBool {α : Type} (p : Bool) (a b : α) : Scalar.select (BitVec.ofBool p) a b = if p then a else b := by
  cases p <;> rfl

theorem ori_ofBool (p q : Bool) : IntOp.ori (BitVec.ofBool p) (BitVec.ofBool q) = BitVec.ofBool (p || q) := by
  cases p <;> cases q <;> rfl

theorem andi_ofBool (p q : Bool) : IntOp.andi (BitVec.ofBool p) (BitVec.ofBool q) = BitVec.ofBool (p && q) := by
  cases p <;> cases q <;> rfl

theorem bits_bot_bf16 : Ideal.ofBits .bf16 0xFF80#16 = ⊥ := by simp [Ideal.ofBits, Ideal.ieee]
theorem bits_bot_f32 : Ideal.ofBits .f32 0xFF800000#32 = ⊥ := by simp [Ideal.ofBits, Ideal.ieee]
theorem bits_top_f32 : Ideal.ofBits .f32 0x7F800000#32 = ⊤ := by simp [Ideal.ofBits, Ideal.ieee]

/-- No place exceeds the constant that stands for "not here". -/
theorem num_le_big {n : ℕ} (h : n < 32768) : num n ≤ Ideal.ofBits .f32 0x7F61B1E6#32 := by
  have hn : (n : ℝ) ≤ 32768 := by exact_mod_cast h.le
  have h1 : (BitVec.extractLsb' (8 + 23) 1 0x7F61B1E6#32 == 1#1) = false := by decide
  have h2 : (BitVec.extractLsb' 23 8 0x7F61B1E6#32).toNat = 254 := by decide
  have h3 : (BitVec.extractLsb' 0 23 0x7F61B1E6#32).toNat = 6402534 := by decide
  simp only [Ideal.ofBits, Ideal.ieee, num]
  rw [h1, h2, h3, if_neg (by norm_num), if_neg (by norm_num), EReal.coe_le_coe_iff]
  refine hn.trans ?_
  norm_num

/-- A word below the bound, converted, is its number as a value. -/
theorem sitofp_word {n : ℕ} (h : n < 32768) : (((BitVec.ofNat 32 n).toInt : ℝ) : EReal) = num n := by
  rw [toInt_word h]
  simp [num]

/-- An invariant of a fold along `0 … n - 1`. -/
theorem foldl_finRange {β : Type} (P : ℕ → β → Prop) : ∀ (n : ℕ) (f : β → Fin n → β) (b : β), P 0 b →
    (∀ (k : Fin n) c, P k.val c → P (k.val + 1) (f c k)) → P n ((List.finRange n).foldl f b)
  | 0, _, _, h0, _ => h0
  | n + 1, f, b, h0, hs => by
    rw [List.finRange_succ_last, List.foldl_append, List.foldl_map]
    exact hs (Fin.last n) _ (foldl_finRange P n (fun c k => f c k.castSucc) b h0 fun k c h => hs k.castSucc c h)

end Cert.Best
-- ==== Proof.KernelValue.lean ====
/- The kernel's arithmetic at an index, read exactly: one step of the scan, the two rows a device keeps, and the two rows
   it returns. -/
module

public import proofs.«01_k».proof.Proof.Run
public import proofs.«01_k».proof.Proof.Words
public import Idealize.ShloMosaic.Lib.Pointwise

@[expose] public section

set_option maxRecDepth 16384

noncomputable section

namespace Cert.Exchange

open Cert.KernelIdeal Cert.KernelIdeal.Gen Cert.Best
open Idealize.ShloMosaic Idealize.ShloMosaic.TcCoe

/-- Stands for "not here" among the places. -/
def big : EReal := Ideal.ofBits .f32 0x7F61B1E6#32

/-! ## The folds over eight rows -/

section Folds

variable (k : Fin 1024)

theorem pay11_max (a : BitVec 32) (v : FVec Ideal S8x1024 .f32) (w : IVec S8x1024 32) :
    k0_pay11 (F := Ideal) a v w (ix3 0 0 k) = (Finset.univ : Finset (Fin 8)).fold max ⊥ (fun s => v (ix2 s k)) := by
  pointwise [k0_pay11]
  rw [bits_bot_f32]

theorem pay11_place (a : BitVec 32) (v : FVec Ideal S8x1024 .f32) (w : IVec S8x1024 32) :
    k0_pay11 (F := Ideal) a v w (ix3 0 1 k) = (Finset.univ : Finset (Fin 8)).fold min ⊤ (fun s =>
      if v (ix2 s k) = (Finset.univ : Finset (Fin 8)).fold max ⊥ (fun s => v (ix2 s k))
      then ((((a * 4096#32 + w (ix2 s k) * 8#32 + BitVec.ofNat 32 s.val).toInt : ℤ) : ℝ) : EReal) else big) := by
  pointwise [k0_pay11]
  rw [bits_bot_f32, bits_top_f32]
  rfl

theorem pay9_apply (x : Vec Ideal S8x1x1024 .f32) :
    k0_pay9 (F := Ideal) x (ix2 0 k) = (Finset.univ : Finset (Fin 8)).fold max ⊥ (fun d => x (ix3 d 0 k)) := by
  pointwise [k0_pay9, k0_pay8, k0_pay7]
  rw [bits_bot_f32]

theorem pay10_apply (x y : Vec Ideal S8x1x1024 .f32) :
    k0_pay10 (F := Ideal) x y (ix2 0 k) = (Finset.univ : Finset (Fin 8)).fold min ⊤ (fun d =>
      if x (ix3 d 0 k) = (Finset.univ : Finset (Fin 8)).fold max ⊥ (fun d => x (ix3 d 0 k)) then y (ix3 d 0 k) else big) := by
  pointwise [k0_pay10, k0_pay8, k0_pay7]
  rw [bits_bot_f32, bits_top_f32]
  rfl

end Folds

/-! ## The scan -/

section Scan

variable (s : Fin 8) (k : Fin 1024)

theorem seg_apply (X : Vec Ideal S512x1024 .bf16) (g : ℕ) (hg : g < 64) :
    seg X g hg (ix2 s k) = X (ix2 ⟨8 * g + s.val, by omega⟩ k) := by
  pointwise [seg]

theorem stepV_apply (v : FVec Ideal S8x1024 .f32) (x : Vec Ideal S8x1024 .bf16) :
    stepV v x (ix2 s k) = (if v (ix2 s k) < x (ix2 s k) then x (ix2 s k) else v (ix2 s k) : EReal) := by
  pointwise [stepV, wide]

theorem stepI_apply (a : BitVec 32) (g : ℕ) (v : FVec Ideal S8x1024 .f32) (x : Vec Ideal S8x1024 .bf16) (w : IVec S8x1024 32) :
    stepI a g v x w (ix2 s k) = if (v (ix2 s k) : EReal) < x (ix2 s k) then a * 64#32 + BitVec.ofNat 32 g else w (ix2 s k) := by
  pointwise [stepI, wide, mark]
  rfl

theorem pay12_apply : k0_pay12 (F := Ideal) (ix2 s k) = (⊥ : EReal) := by
  pointwise [k0_pay12]
  exact bits_bot_f32

theorem pay13_apply : k0_pay13 (ix2 s k) = BitVec.ofNat 32 0 := by
  pointwise [k0_pay13]

/-- The number of group `g` of point `n`. -/
theorem mark_eq (n g : ℕ) : BitVec.ofNat 32 n * 64#32 + BitVec.ofNat 32 g = BitVec.ofNat 32 (64 * n + g) := by
  rw [Nat.mul_comm, BitVec.ofNat_add, BitVec.ofNat_mul]

/-- Within one point: `x` is the sequence that row `s` of the groups runs through, `64 n` terms of it seen before. -/
theorem acc_found (X : Vec Ideal S512x1024 .bf16) (v : FVec Ideal S8x1024 .f32) (w : IVec S8x1024 32) (x : ℕ → EReal) (n : ℕ)
    (hx : ∀ g (hg : g < 64), X (ix2 ⟨8 * g + s.val, by omega⟩ k) = x (64 * n + g))
    (h0 : ∃ q, Found x (64 * n) (v (ix2 s k)) q ∧ w (ix2 s k) = BitVec.ofNat 32 q) :
    ∀ g (hg : g ≤ 64), ∃ q, Found x (64 * n + g) (accV X v g hg (ix2 s k)) q ∧ accI (BitVec.ofNat 32 n) X v w g hg (ix2 s k) = BitVec.ofNat 32 q
  | 0, _ => h0
  | g + 1, hg => by
    obtain ⟨q, hf, hq⟩ := acc_found X v w x n hx h0 g (Nat.le_of_succ_le hg)
    refine ⟨if accV X v g (Nat.le_of_succ_le hg) (ix2 s k) < x (64 * n + g) then 64 * n + g else q, ?_, ?_⟩
    · rw [show accV X v (g + 1) hg = stepV (accV X v g (Nat.le_of_succ_le hg)) (seg X g hg) from rfl, stepV_apply, seg_apply, hx g hg]
      exact hf.step
    · show stepI _ _ _ _ _ _ = _
      rw [stepI_apply, seg_apply, hx g hg, hq, mark_eq, ← apply_ite (BitVec.ofNat 32)]

end Scan

/-! ## A device's part -/

section Device

variable (m : (ℓ : Loc nD τ sig) → Buf (Elt Ideal) ℓ) (c : Dev nD) (k : Fin 1024) (X : ℕ → EReal)

/-- Column `k` of the device's part holds the terms of `X` from `4096 c` on. -/
def Holds : Prop := ∀ n, n < 8 → ∀ i : Fin 512, blk m c n (ix2 i k) = X (4096 * c.val + 512 * n + i.val)

variable {m c k X}

theorem scan_found (hX : Holds m c k X) (s : Fin 8) : ∀ n, n ≤ 8 →
    ∃ q, Found (fun g => X (4096 * c.val + 8 * g + s.val)) (64 * n) ((scan m c n).1 (ix2 s k)) q
      ∧ (scan m c n).2 (ix2 s k) = BitVec.ofNat 32 q
  | 0, _ => ⟨0, by rw [show (scan m c 0).1 = k0_pay12 from rfl, pay12_apply]; exact .zero _, pay13_apply s k⟩
  | n + 1, hn => acc_found s k (blk m c n) _ _ _ n (fun g hg => by
      rw [hX n hn]
      exact congrArg X (by show 4096 * c.val + 512 * n + (8 * g + s.val) = _; ring)) (scan_found hX s n (Nat.le_of_succ_le hn)) 64 (Nat.le_refl _)

theorem me_eq : ∀ c : Dev nD, me c = BitVec.ofNat 32 c.val := by decide

/-- The row number, as the device computes it. -/
theorem row_word (c : Dev nD) (q s : ℕ) :
    me c * 4096#32 + BitVec.ofNat 32 q * 8#32 + BitVec.ofNat 32 s = BitVec.ofNat 32 (4096 * c.val + 8 * q + s) := by
  rw [me_eq, Nat.mul_comm 4096, Nat.mul_comm 8, BitVec.ofNat_add, BitVec.ofNat_add, BitVec.ofNat_mul, BitVec.ofNat_mul]

/-- What a device puts into its row of the gather buffer: the largest value of its part of the column, and the first row
    where it is taken. -/
theorem device_best (hX : Holds m c k X) :
    ∃ I, Best (fun r => ∃ s : Fin 8, ∃ g, g < 512 ∧ r = 4096 * c.val + 8 * g + s.val) X (gath m (ix3 c 0 k)) I
      ∧ gath m (ix3 c 1 k) = num I ∧ I < 32768 := by
  choose q hf hq using fun s : Fin 8 => scan_found hX s 8 (Nat.le_refl _)
  have hb : ∀ s : Fin 8, Best (fun r => ∃ g, g < 512 ∧ r = 4096 * c.val + 8 * g + s.val) X ((scan m c 8).1 (ix2 s k)) (4096 * c.val + 8 * q s + s.val) :=
    fun s => ((hf s).best (by decide)).map (fun g => 4096 * c.val + 8 * g + s.val) fun a b h => by dsimp only; omega
  have hlt : ∀ s : Fin 8, 4096 * c.val + 8 * q s + s.val < 32768 := fun s => by
    have h1 := ((hf s).best (by decide)).1
    have h2 : c.val < 8 := c.isLt
    have h3 := s.isLt
    dsimp only at h1
    omega
  obtain ⟨I, hI, hJ, s, rfl⟩ := Best.join hb big fun s => num_le_big (hlt s)
  have e0 : gath m (ix3 c 0 k) = k0_pay11 (F := Ideal) (me c) (scan m c 8).1 (scan m c 8).2 (ix3 0 0 k) := by
    unfold gath
    congr 1
    funext a
    fin_cases a <;> rfl
  have e1 : gath m (ix3 c 1 k) = k0_pay11 (F := Ideal) (me c) (scan m c 8).1 (scan m c 8).2 (ix3 0 1 k) := by
    unfold gath
    congr 1
    funext a
    fin_cases a <;> rfl
  refine ⟨_, ?_, ?_, hlt s⟩
  · rw [e0, pay11_max]
    exact hI
  · rw [e1, pay11_place, ← hJ]
    refine congrArg (fun f => Finset.fold min ⊤ f Finset.univ) (funext fun s => ?_)
    rw [hq s, row_word, sitofp_word (hlt s)]

end Device

/-! ## The result -/

section Result

variable (k : Fin 1024)

theorem maxes_apply (g : Vec Ideal S8x2x1024 .f32) (d : Fin 8) : maxes g (ix3 d 0 k) = g (ix3 d 0 k) := by
  pointwise [maxes]

theorem places_apply (g : Vec Ideal S8x2x1024 .f32) (d : Fin 8) : places g (ix3 d 0 k) = g (ix3 d 1 k) := by
  pointwise [places]

/-- The two rows of the result, as places in its buffer. -/
theorem row0_emb : oA0.emb (ix2 0 k) = ix2 0 k := by
  funext a
  fin_cases a
  · rfl
  · exact Fin.ext (by show 0 + 1 * k.val = k.val; omega)

theorem row1_emb : oA1.emb (ix2 0 k) = ix2 1 k := by
  funext a
  fin_cases a
  · rfl
  · exact Fin.ext (by show 0 + 1 * k.val = k.val; omega)

theorem row0_out : (ix2 0 k : S2x1024.Idx) ∉ oA1.set := by
  rw [show oA1.set = rO1.set from View.set_slice_whole _ _, Rect.mem_set_unit]
  intro h
  have h0 : 1 ≤ 0 := (h 0).1
  exact absurd h0 (by decide)

theorem outOf_max (g : Vec Ideal S8x2x1024 .f32) : outOf g (ix2 0 k) = k0_pay9 (maxes g) (ix2 0 k) := by
  unfold outOf outOver
  rw [View.write_of_not_mem _ _ _ (row0_out k)]
  conv_lhs => rw [← row0_emb k]
  exact View.write_emb_of_mem _ _ (Finset.mem_univ _)

theorem outOf_place (g : Vec Ideal S8x2x1024 .f32) : outOf g (ix2 1 k) = k0_pay10 (maxes g) (places g) (ix2 0 k) := by
  unfold outOf outOver
  conv_lhs => rw [← row1_emb k]
  exact View.write_emb_of_mem _ _ (Finset.mem_univ _)

/-- The kernel's two rows: the largest value of the column, and the first row where it is taken. -/
theorem kernel_best {m : (ℓ : Loc nD τ sig) → Buf (Elt Ideal) ℓ} {X : ℕ → EReal} (hX : ∀ c, Holds m c k X) :
    ∃ I, Best (fun r => r < 32768) X (outOf (gath m) (ix2 0 k)) I ∧ outOf (gath m) (ix2 1 k) = num I := by
  choose i hb hn hlt using fun c : Dev nD => device_best (hX c)
  obtain ⟨I, hI, hJ, -⟩ := Best.join (S := fun c : Fin 8 => _) hb big fun c => num_le_big (hlt c)
  refine ⟨I, ?_, ?_⟩
  · rw [outOf_max, pay9_apply]
    simp only [maxes_apply]
    refine hI.congr fun r => ⟨?_, fun hr => ?_⟩
    · rintro ⟨c, s, g, hg, rfl⟩
      have := c.isLt
      have := s.isLt
      omega
    · refine ⟨⟨r / 4096, by omega⟩, ⟨r % 8, by omega⟩, r % 4096 / 8, by omega, ?_⟩
      dsimp only
      omega
  · rw [outOf_place, pay10_apply]
    simp only [maxes_apply, places_apply, hn]
    exact hJ

end Result

end Cert.Exchange
-- ==== Proof.RefValue.lean ====
/- The reference's two rows, as mathematics: in each column the largest value and the first row where it is taken. -/
module

public import proofs.«01_k».proof.Proof.Ref
public import proofs.«01_k».proof.Proof.Words

@[expose] public section

noncomputable section

namespace Cert.Ref

open Cert.ReferenceIdeal Cert.Best
open Idealize.ShloMosaic Idealize.ShloMosaic.TcCoe

/-! ## A fold down a column, whatever the numbers of rows and columns -/

section Fold

variable {d : Fin 2 → ℕ} {t u : Shape}

/-- Column `j`, as a sequence of values. -/
def col (x : (⟨2, d⟩ : Shape).Idx → EReal) (j : Fin (d 1)) : ℕ → EReal :=
  fun r => if h : r < d 0 then x (Shape.pair ⟨r, h⟩ j) else ⊥

theorem col_row (x : (⟨2, d⟩ : Shape).Idx → EReal) (j : Fin (d 1)) (r : Fin (d 0)) : x (Shape.pair r j) = col x j r.val := by
  unfold col
  rw [dif_pos r.isLt]

/-- A fold of pairs of a value and a row by a body that keeps the pair so far when its value is above the new one, or
    equal to it and its row earlier. -/
theorem found_pair (x : (⟨2, d⟩ : Shape).Idx → EReal) (y : (⟨2, d⟩ : Shape).Idx → BitVec 32) (ix : u.Idx → EReal) (iy : u.Idx → BitVec 32)
    (h' : (⟨2, d⟩ : Shape).ReducesTo [0] t) (h : (⟨2, d⟩ : Shape).Reduces [0] t) (hu : 0 < u.numel) (j : t.Idx)
    (f : EReal × BitVec 32 → EReal × BitVec 32 → EReal × BitVec 32) (hd : d 0 ≤ 32768)
    (hf : ∀ (v u : EReal) {w n : ℕ}, w < 32768 → n < 32768 → f (v, BitVec.ofNat 32 w) (u, BitVec.ofNat 32 n)
      = (if u < v then v else u, BitVec.ofNat 32 (if u < v ∨ (v = u ∧ w < n) then w else n)))
    (hy : ∀ r c, y (Shape.pair r c) = BitVec.ofNat 32 r.val) (hx0 : ∀ i, ix i = ⊥) (hy0 : ∀ i, iy i = BitVec.ofNat 32 0) :
    ∃ w, Found (col x (h.col j)) (d 0) (Host.reduce2 f x y ix iy h' hu j).1 w ∧ (Host.reduce2 f x y ix iy h' hu j).2 = BitVec.ofNat 32 w := by
  have e : Host.reduce2 f x y ix iy h' hu j
      = reduceFold h f (ix (Shape.Idx.first hu), iy (Shape.Idx.first hu)) (fun i => (x i, y i)) j := rfl
  rw [e, reduceFold_rows, hx0, hy0]
  refine foldl_finRange (fun n (p : EReal × BitVec 32) => ∃ w, Found (col x (h.col j)) n p.1 w ∧ p.2 = BitVec.ofNat 32 w) (d 0) _ _
    ⟨0, .zero _, rfl⟩ fun k c ⟨w, hw, hc⟩ => ?_
  obtain ⟨v, q⟩ := c
  dsimp only at hw hc ⊢
  subst hc
  have hk := lt_of_lt_of_le k.isLt hd
  rw [hy, col_row x, hf v _ (lt_of_le_of_lt hw.place_le hk) hk]
  exact ⟨_, hw.step_keep, rfl⟩

/-- The same of the reference's own fold, of which only the rows are asked. -/
theorem found_arg (x : FVec Ideal (⟨2, d⟩ : Shape) .bf16) (y : (⟨2, d⟩ : Shape).Idx → BitVec 32) (ix : u.Idx → Ideal .bf16) (iy : u.Idx → BitVec 32)
    (h' : (⟨2, d⟩ : Shape).ReducesTo [0] t) (h : (⟨2, d⟩ : Shape).Reduces [0] t) (hu : 0 < u.numel) (j : t.Idx)
    (f : Ideal .bf16 × BitVec 32 → Ideal .bf16 × BitVec 32 → Ideal .bf16 × BitVec 32) (hd : d 0 ≤ 32768)
    (hf : ∀ (v u : EReal) {w n : ℕ}, w < 32768 → n < 32768 → f (v, BitVec.ofNat 32 w) (u, BitVec.ofNat 32 n)
      = (if u < v then v else u, BitVec.ofNat 32 (if u < v ∨ (v = u ∧ w < n) then w else n)))
    (hy : ∀ r c, y (Shape.pair r c) = BitVec.ofNat 32 r.val) (hx0 : ∀ i, ix i = (⊥ : EReal)) (hy0 : ∀ i, iy i = BitVec.ofNat 32 0)
    (p : t.Idx → BitVec 32) (hp : p = fun j => (Host.argReduce f x y ix iy h' hu j).2) :
    ∃ v w, Found (col x (h.col j)) (d 0) v w ∧ p j = BitVec.ofNat 32 w := by
  subst hp
  dsimp only
  rw [Ideal.argReduce_eq_reduce2]
  obtain ⟨w, h₁, h₂⟩ := found_pair x y ix iy h' h hu j f hd hf hy hx0 hy0
  exact ⟨_, w, h₁, h₂⟩

/-- A fold of values by the maximum. -/
theorem found_max (x : (⟨2, d⟩ : Shape).Idx → EReal) (ix : u.Idx → EReal)
    (h' : (⟨2, d⟩ : Shape).ReducesTo [0] t) (h : (⟨2, d⟩ : Shape).Reduces [0] t) (hu : 0 < u.numel) (j : t.Idx) (hx0 : ∀ i, ix i = ⊥) :
    ∃ w, Found (col x (h.col j)) (d 0) (Host.reduce (fun a b : EReal => max a b) x ix h' hu j) w := by
  have e : Host.reduce (fun a b : EReal => max a b) x ix h' hu j
      = reduceFold h (fun a b : EReal => max a b) (ix (Shape.Idx.first hu)) x j := rfl
  rw [e, reduceFold_rows, hx0]
  refine foldl_finRange (fun n (v : EReal) => ∃ w, Found (col x (h.col j)) n v w) (d 0) _ _ ⟨0, .zero _⟩ fun k v ⟨w, hw⟩ => ?_
  rw [col_row x, max_def_lt]
  exact ⟨_, hw.step⟩

end Fold

/-! ## The reference's rows -/

variable (x : Vec Ideal S32768x1024 .bf16) (j : S1024.Idx)

theorem reduces : S32768x1024.Reduces [0] S1024 := by decide

/-- The reducer, on a pair of values and a pair of rows told as numbers. -/
theorem reducer_eq (v u : EReal) {w n : ℕ} (hw : w < 32768) (hn : n < 32768) :
    reducer_argmax_bf16_i32 (F := Ideal) (v, BitVec.ofNat 32 w) (u, BitVec.ofNat 32 n)
      = (if u < v then v else u, BitVec.ofNat 32 (if u < v ∨ (v = u ∧ w < n) then w else n)) := by
  unfold reducer_argmax_bf16_i32
  simp only [Ideal.cmpf_def, Ideal.cmp, slt_word hw hn, ori_ofBool, andi_ofBool, select_ofBool]
  by_cases h1 : u < v <;> by_cases h2 : v = u <;> by_cases h3 : w < n <;> simp [h1, h2, h3]

/-- The reference's numbering of the rows. -/
theorem rows_word (r : Fin 32768) (c : Fin 1024) :
    iotaInDim S32768x1024 32 0 (Shape.pair (d := ![32768, 1024]) r c) = BitVec.ofNat 32 r.val := rfl

theorem found_places : ∃ v w, Found (col (d := ![32768, 1024]) x (reduces.col j)) 32768 v w ∧ places x j = BitVec.ofNat 32 w :=
  found_arg (d := ![32768, 1024]) x (iotaInDim S32768x1024 32 0) (constant (F := Ideal) S_ .bf16 0xFF80#16) (constantI S_ 32 0#32)
    Facts₀.reducesTo_S32768x1024_S1024_d0 reduces Facts₀.h_S_ j (reducer_argmax_bf16_i32 (F := Ideal)) (Nat.le_refl _) reducer_eq
    rows_word (fun _ => bits_bot_bf16) (fun _ => rfl) (places x) rfl

theorem found_maxima : ∃ w, Found (col (d := ![32768, 1024]) x (reduces.col j)) 32768 (maxima x j) w :=
  found_max (d := ![32768, 1024]) x (constant (F := Ideal) S_ .bf16 0xFF80#16)
    Facts₀.reducesTo_S32768x1024_S1024_d0 reduces Facts₀.h_S_ j (fun _ => bits_bot_bf16)

/-- What the reference returns in column `j`: the largest value, and the first row where it is taken. -/
theorem best : ∃ I, Best (fun r => r < 32768) (col (d := ![32768, 1024]) x (reduces.col j)) (maxima x j) I ∧ places x j = BitVec.ofNat 32 I := by
  obtain ⟨v, w, hf, hw⟩ := found_places x j
  obtain ⟨w', hf'⟩ := found_maxima x j
  have hM := Best.unique (fun _ => Iff.rfl) (hf'.best (Nat.zero_lt_succ _)) (hf.best (Nat.zero_lt_succ _))
  exact ⟨w, hM.1 ▸ hf.best (Nat.zero_lt_succ _), hw⟩

end Cert.Ref
-- ==== Proof.Agree.lean ====
/- The kernel's result is the reference's. -/
module

public import proofs.«01_k».proof.Proof.KernelValue
public import proofs.«01_k».proof.Proof.RefValue
public import Idealize.ShloMosaic.Lib.Pipeline.ValueKit
public import Idealize.ShloMosaic.Lib.LayoutAt

@[expose] public section

set_option maxRecDepth 16384

noncomputable section

namespace Cert.Exchange

open Cert.KernelIdeal Cert.KernelIdeal.Gen Cert.Best
open Idealize.ShloMosaic Idealize.ShloMosaic.TcCoe

variable (m : (ℓ : Loc nD τ sig) → Buf (Elt Ideal) ℓ) (c : Dev nD)

/-- The result's array is written once, whole, after the last point. -/
theorem finalA_out : finalA m c (1 : Fin 2) = outOf (gath m) := by
  unfold finalA
  refine (dats m 0 c).arrAt_eq_of_after_last 1 (pt 7) (by decide +kernel) _ fun j => ?_
  blk_simp
  rfl

theorem index_row (t : Fin cfg0.N) : win0_0.index t 0 = t.val := by
  have h : ∀ t : Fin grid0.N, win0_0.index t 0 = t.val := by decide +kernel
  exact h t

theorem index_col (t : Fin cfg0.N) : win0_0.index t 1 = 0 := by
  have h : ∀ t : Fin grid0.N, win0_0.index t 1 = 0 := by decide +kernel
  exact h t

/-- Block `n` of the argument at an index. -/
theorem blk_apply (n : ℕ) (hn : n < 8) (i : Fin 512) (k : Fin 1024) :
    blk m c n (ix2 i k) = m ((c.tc : Thread nD τ).loc main_arg0) (ix2 ⟨512 * n + i.val, by omega⟩ k) := by
  unfold blk iblk
  blk_simp
  show m ((c.tc : Thread nD τ).loc main_arg0) _ = m ((c.tc : Thread nD τ).loc main_arg0) _
  congr 1
  funext a
  refine Fin.ext ?_
  have e : ((win0_0.blk (pt n)).view.emb (ix2 i k) a).val = ((win0_0.rect (pt n)).emb (ix2 i k) a).val := rfl
  rw [e, win0_0.rect_emb_val]
  fin_cases a
  · show win0_0.index (pt n) 0 * 512 + i.val = 512 * n + i.val
    rw [index_row]
    show n % 8 * 512 + i.val = _
    omega
  · show win0_0.index (pt n) 1 * 1024 + k.val = k.val
    rw [index_col]
    omega

/-- A device's part of the whole array at an index. -/
theorem part_apply (x : Vec Ideal Cert.ReferenceIdeal.S32768x1024 .bf16) (i : Fin 4096) (k : Fin 1024) :
    (Layout.block ⟨2, ![4096, 1024]⟩ ⟨2, ![32768, 1024]⟩ 0 8 c x : _ → EReal) (ix2 i k)
      = Cert.Ref.col (d := ![32768, 1024]) x k (4096 * c.val + i.val) := by
  have hc : c.val < 8 := c.isLt
  have hr : 4096 * c.val + i.val < (![32768, 1024] : Fin 2 → ℕ) 0 := by
    show _ < 32768
    omega
  refine Eq.trans ?_ (Cert.Ref.col_row (d := ![32768, 1024]) x k ⟨_, hr⟩)
  refine congrArg x (funext fun a => Fin.ext ?_)
  rw [Layout.Tiles.idx_val]
  fin_cases a
  · show c.val * 4096 + i.val = 4096 * c.val + i.val
    omega
  · rfl

/-- Where the devices hold the parts of an array, each finds its stretch of a column. -/
theorem holds (x : Vec Ideal Cert.ReferenceIdeal.S32768x1024 .bf16)
    (h : m ((c.tc : Thread nD τ).loc main_arg0) = Layout.block ⟨2, ![4096, 1024]⟩ ⟨2, ![32768, 1024]⟩ 0 8 c x) (k : Fin 1024) :
    Holds m c k (Cert.Ref.col (d := ![32768, 1024]) x k) := fun n hn i => by
  rw [blk_apply m c n hn, h]
  exact (part_apply c x _ k).trans (congrArg _ (Nat.add_assoc _ _ _).symm)

theorem num_word (b : BitVec 32) : (FloatOps.sitofp (F := Ideal) .f32 b : EReal) = (((b.toInt : ℤ) : ℝ) : EReal) := rfl

theorem ref_max (x : Vec Ideal Cert.ReferenceIdeal.S32768x1024 .bf16) (k : Fin 1024) :
    Cert.Ref.out x (ix2 0 k) = Cert.Ref.maxima x (ix1 k) := by
  pointwise [Cert.Ref.out]

theorem ref_place (x : Vec Ideal Cert.ReferenceIdeal.S32768x1024 .bf16) (k : Fin 1024) :
    Cert.Ref.out x (ix2 1 k) = ((((Cert.Ref.places x (ix1 k)).toInt : ℤ) : ℝ) : EReal) := by
  pointwise [Cert.Ref.out]
  exact num_word _

/-- Both find, in each column, the largest value and the first row where it is taken. -/
theorem agree (x : Vec Ideal Cert.ReferenceIdeal.S32768x1024 .bf16)
    (h : ∀ c : Dev nD, m ((c.tc : Thread nD τ).loc main_arg0) = Layout.block ⟨2, ![4096, 1024]⟩ ⟨2, ![32768, 1024]⟩ 0 8 c x) :
    outOf (gath m) = Cert.Ref.out x := by
  have key : ∀ k : Fin 1024, outOf (gath m) (ix2 0 k) = Cert.Ref.out x (ix2 0 k) ∧ outOf (gath m) (ix2 1 k) = Cert.Ref.out x (ix2 1 k) := fun k => by
    obtain ⟨I, hI, hJ⟩ := kernel_best k fun c => holds m c x (h c) k
    obtain ⟨I', hI', hJ'⟩ := Cert.Ref.best x (ix1 k)
    obtain ⟨eM, rfl⟩ := Best.unique (fun _ => Iff.rfl) hI hI'
    rw [ref_max, ref_place, hJ, hJ', sitofp_word hI.1]
    exact ⟨eM, rfl⟩
  funext j
  rw [eq_ix2 j]
  have hj : (j 0).val < 2 := (j 0).isLt
  rcases (show (j 0).val = 0 ∨ (j 0).val = 1 by omega) with e | e
  · rw [show j 0 = (0 : Fin 2) from Fin.ext e]
    exact (key _).1
  · rw [show j 0 = (1 : Fin 2) from Fin.ext e]
    exact (key _).2

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Ref
public import proofs.«01_k».proof.Proof.Agree
public import Idealize.ShloMosaic.Adequacy
public import Idealize.ShloMosaic.Init

@[expose] public section

noncomputable section

namespace Cert.Proof

open Idealize.ShloMosaic Idealize.SL.Sem Cert.Kernel

/-- What the run leaves of the argument, at any float values. -/
theorem arg_kept {F : FTy → Type} [FloatOps F] (m : (ℓ : Loc Cert.KernelIdeal.nD Cert.KernelIdeal.τ Cert.KernelIdeal.sig) → Buf (Elt F) ℓ)
    {r : PUnit × MemSt Cert.KernelIdeal.nD Cert.KernelIdeal.τ Cert.KernelIdeal.sig (Elt F)} (h : Cert.Exchange.AtEnd m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) :=
  (h c 0).trans (Cert.Exchange.finalA_arg m c)

/-- The run leaves the argument as it was and every counter at zero, at any float values. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0) :=
  (θ_run (Cert.KernelIdeal.defs (F := F)) _ _).mono (fun _ h => ⟨arg_kept m h.1, h.2⟩) (Cert.Exchange.run_main m ρ)

set_option smartUnfolding false in
/-- The kernel as captured and the kernel as printed for exact reading are one text under two names: both are unfolded
    to see it. -/
theorem frame_kernel : Cert.quiescent_Kernel := fun m ρ _ => frame (F := Bits) m ρ

theorem frame_kernelIdeal : Cert.quiescent_KernelIdeal := fun m ρ _ => frame (F := Ideal) m ρ

theorem frame_referenceIdeal : Cert.quiescent_ReferenceIdeal := Cert.Ref.frame

/-- The kernel ends with the reference's two rows on every device. -/
theorem algebraic : Cert.algebraic_KernelIdeal_ReferenceIdeal := fun m g m' g' _ h => by
  refine ⟨Cert.Ref.out (m' (((0 : Dev Cert.ReferenceIdeal.nD).tc : Thread Cert.ReferenceIdeal.nD Cert.ReferenceIdeal.τ).loc Cert.ReferenceIdeal.main_arg0)), ?_, Cert.Ref.run m' g'⟩
  refine (θ_run (Cert.KernelIdeal.defs (F := Ideal)) _ _).mono (fun r hr c => ⟨?_, arg_kept m hr.1 c⟩) (Cert.Exchange.run_main m g)
  exact ((hr.1 c (1 : Fin 2)).trans (Cert.Exchange.finalA_out m c)).trans (Cert.Exchange.agree m _ h)

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
